-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x3328 : Shape := ⟨3, ![192, 1, 3328]⟩
abbrev S9088x1664 : Shape := ⟨2, ![9088, 1664]⟩
abbrev S9088x52 : Shape := ⟨2, ![9088, 52]⟩
abbrev S192x52x16x4 : Shape := ⟨4, ![192, 52, 16, 4]⟩
abbrev S192x52x4x16 : Shape := ⟨4, ![192, 52, 4, 16]⟩
abbrev S192x3328 : Shape := ⟨2, ![192, 3328]⟩
abbrev S192x9088 : Shape := ⟨2, ![192, 9088]⟩
abbrev S512x1664 : Shape := ⟨2, ![512, 1664]⟩
abbrev S512x52 : Shape := ⟨2, ![512, 52]⟩
abbrev S192x512 : Shape := ⟨2, ![192, 512]⟩
abbrev S3328x512 : Shape := ⟨2, ![3328, 512]⟩
abbrev S52x512 : Shape := ⟨2, ![52, 512]⟩
abbrev S16x128 : Shape := ⟨2, ![16, 128]⟩
abbrev S1664x512 : Shape := ⟨2, ![1664, 512]⟩
abbrev S1x128 : Shape := ⟨2, ![1, 128]⟩
abbrev S32x128 : Shape := ⟨2, ![32, 128]⟩
abbrev S8x128 : Shape := ⟨2, ![8, 128]⟩
abbrev S16x128x1 : Shape := ⟨3, ![16, 128, 1]⟩
abbrev S192x1x9088 : Shape := ⟨3, ![192, 1, 9088]⟩

abbrev nBuf : Space → Nat
  | .hbm => 8
  | .vmem => 9
  | .smem => 0
  | _ => 0

abbrev bufTy : (tb : Table) → Fin (tcTables nBuf tb) → BufTy
  | .hbm, ⟨0, _⟩ => ⟨S192x1x3328, .bf16⟩
  | .hbm, ⟨1, _⟩ => ⟨S9088x1664, .i8⟩
  | .hbm, ⟨2, _⟩ => ⟨S9088x52, .f32⟩
  | .hbm, ⟨3, _⟩ => ⟨S192x52x16x4, .bf16⟩
  | .hbm, ⟨4, _⟩ => ⟨S192x52x4x16, .bf16⟩
  | .hbm, ⟨5, _⟩ => ⟨S192x3328, .bf16⟩
  | .hbm, ⟨6, _⟩ => ⟨S192x9088, .bf16⟩
  | .hbm, ⟨7, _⟩ => ⟨S192x1x9088, .bf16⟩
  | .local _ .vmem, ⟨0, _⟩ => ⟨S192x3328, .bf16⟩
  | .local _ .vmem, ⟨1, _⟩ => ⟨S512x1664, .i8⟩
  | .local _ .vmem, ⟨2, _⟩ => ⟨S512x1664, .i8⟩
  | .local _ .vmem, ⟨3, _⟩ => ⟨S512x52, .f32⟩
  | .local _ .vmem, ⟨4, _⟩ => ⟨S512x52, .f32⟩
  | .local _ .vmem, ⟨5, _⟩ => ⟨S192x512, .bf16⟩
  | .local _ .vmem, ⟨6, _⟩ => ⟨S192x512, .bf16⟩
  | .local _ .vmem, ⟨7, _⟩ => ⟨S3328x512, .bf16⟩
  | .local _ .vmem, ⟨8, _⟩ => ⟨S52x512, .f32⟩
  | _, _ => ⟨S192x1x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x3328 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1664 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x52 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S192x1x3328 : Shape := ⟨3, ![192, 1, 3328]⟩
abbrev S9088x1664 : Shape := ⟨2, ![9088, 1664]⟩
abbrev S9088x52 : Shape := ⟨2, ![9088, 52]⟩
abbrev S192x1664x2 : Shape := ⟨3, ![192, 1664, 2]⟩
abbrev S2x192x1664 : Shape := ⟨3, ![2, 192, 1664]⟩
abbrev S1x192x1664 : Shape := ⟨3, ![1, 192, 1664]⟩
abbrev S192x1664 : Shape := ⟨2, ![192, 1664]⟩
abbrev S9088x52x32 : Shape := ⟨3, ![9088, 52, 32]⟩
abbrev S_ : Shape := ⟨0, ![]⟩
abbrev S192x9088 : Shape := ⟨2, ![192, 9088]⟩
abbrev S192x1x9088 : Shape := ⟨3, ![192, 1, 9088]⟩

abbrev nBuf : Space → Nat
  | .hbm => 201
  | .vmem => 0
  | .smem => 0
  | _ => 0

abbrev hbmTy0_0 (i : Nat) : BufTy := match i % 128 with
  | 0 => ⟨S192x1x3328, .bf16⟩
  | 1 => ⟨S9088x1664, .i8⟩
  | 2 => ⟨S9088x52, .f32⟩
  | 3 => ⟨S192x1664x2, .bf16⟩
  | 4 => ⟨S2x192x1664, .bf16⟩
  | 5 => ⟨S1x192x1664, .bf16⟩
  | 6 => ⟨S192x1664, .bf16⟩
  | 7 => ⟨S1x192x1664, .bf16⟩
  | 8 => ⟨S192x1664, .bf16⟩
  | 9 => ⟨S9088x52x32, .f32⟩
  | 10 => ⟨S9088x1664, .f32⟩
  | 11 => ⟨S9088x1664, .i32⟩
  | 12 => ⟨S_, .i32⟩
  | 13 => ⟨S9088x1664, .i32⟩
  | 14 => ⟨S9088x1664, .i32⟩
  | 15 => ⟨S_, .i32⟩
  | 16 => ⟨S9088x1664, .i32⟩
  | 17 => ⟨S9088x1664, .i32⟩
  | 18 => ⟨S_, .i32⟩
  | 19 => ⟨S9088x1664, .i32⟩
  | 20 => ⟨S9088x1664, .i32⟩
  | 21 => ⟨S_, .i32⟩
  | 22 => ⟨S9088x1664, .i32⟩
  | 23 => ⟨S9088x1664, .i1⟩
  | 24 => ⟨S9088x1664, .i1⟩
  | 25 => ⟨S_, .f32⟩
  | 26 => ⟨S_, .f32⟩
  | 27 => ⟨S9088x1664, .f32⟩
  | 28 => ⟨S9088x1664, .f32⟩
  | 29 => ⟨S9088x1664, .f32⟩
  | 30 => ⟨S_, .f32⟩
  | 31 => ⟨S_, .f32⟩
  | 32 => ⟨S9088x1664, .f32⟩
  | 33 => ⟨S9088x1664, .f32⟩
  | 34 => ⟨S9088x1664, .f32⟩
  | 35 => ⟨S_, .f32⟩
  | 36 => ⟨S_, .f32⟩
  | 37 => ⟨S9088x1664, .f32⟩
  | 38 => ⟨S9088x1664, .f32⟩
  | 39 => ⟨S9088x1664, .f32⟩
  | 40 => ⟨S_, .f32⟩
  | 41 => ⟨S_, .f32⟩
  | 42 => ⟨S9088x1664, .f32⟩
  | 43 => ⟨S9088x1664, .f32⟩
  | 44 => ⟨S9088x1664, .f32⟩
  | 45 => ⟨S_, .f32⟩
  | 46 => ⟨S_, .f32⟩
  | 47 => ⟨S9088x1664, .f32⟩
  | 48 => ⟨S9088x1664, .f32⟩
  | 49 => ⟨S9088x1664, .f32⟩
  | 50 => ⟨S_, .f32⟩
  | 51 => ⟨S_, .f32⟩
  | 52 => ⟨S9088x1664, .f32⟩
  | 53 => ⟨S9088x1664, .f32⟩
  | 54 => ⟨S9088x1664, .f32⟩
  | 55 => ⟨S_, .f32⟩
  | 56 => ⟨S_, .f32⟩
  | 57 => ⟨S9088x1664, .f32⟩
  | 58 => ⟨S9088x1664, .f32⟩
  | 59 => ⟨S9088x1664, .f32⟩
  | 60 => ⟨S_, .f32⟩
  | 61 => ⟨S_, .f32⟩
  | 62 => ⟨S9088x1664, .f32⟩
  | 63 => ⟨S9088x1664, .f32⟩
  | 64 => ⟨S9088x1664, .f32⟩
  | 65 => ⟨S_, .i32⟩
  | 66 => ⟨S9088x1664, .i32⟩
  | 67 => ⟨S9088x1664, .i32⟩
  | 68 => ⟨S_, .i32⟩
  | 69 => ⟨S9088x1664, .i32⟩
  | 70 => ⟨S9088x1664, .i32⟩
  | 71 => ⟨S_, .i32⟩
  | 72 => ⟨S9088x1664, .i32⟩
  | 73 => ⟨S9088x1664, .i1⟩
  | 74 => ⟨S9088x1664, .i1⟩
  | 75 => ⟨S9088x1664, .f32⟩
  | 76 => ⟨S9088x1664, .f32⟩
  | 77 => ⟨S9088x1664, .f32⟩
  | 78 => ⟨S9088x1664, .f32⟩
  | 79 => ⟨S_, .i32⟩
  | 80 => ⟨S9088x1664, .i32⟩
  | 81 => ⟨S9088x1664, .i32⟩
  | 82 => ⟨S_, .i32⟩
  | 83 => ⟨S9088x1664, .i32⟩
  | 84 => ⟨S9088x1664, .i32⟩
  | 85 => ⟨S_, .i32⟩
  | 86 => ⟨S9088x1664, .i32⟩
  | 87 => ⟨S9088x1664, .i1⟩
  | 88 => ⟨S9088x1664, .i1⟩
  | 89 => ⟨S9088x1664, .f32⟩
  | 90 => ⟨S9088x1664, .f32⟩
  | 91 => ⟨S_, .i32⟩
  | 92 => ⟨S9088x1664, .i32⟩
  | 93 => ⟨S9088x1664, .i32⟩
  | 94 => ⟨S_, .i32⟩
  | 95 => ⟨S9088x1664, .i32⟩
  | 96 => ⟨S9088x1664, .i32⟩
  | 97 => ⟨S_, .i32⟩
  | 98 => ⟨S9088x1664, .i32⟩
  | 99 => ⟨S9088x1664, .i1⟩
  | 100 => ⟨S9088x1664, .i1⟩
  | 101 => ⟨S9088x1664, .f32⟩
  | 102 => ⟨S9088x1664, .f32⟩
  | 103 => ⟨S9088x1664, .bf16⟩
  | 104 => ⟨S_, .i32⟩
  | 105 => ⟨S9088x1664, .i32⟩
  | 106 => ⟨S9088x1664, .i32⟩
  | 107 => ⟨S_, .i32⟩
  | 108 => ⟨S9088x1664, .i32⟩
  | 109 => ⟨S9088x1664, .i32⟩
  | 110 => ⟨S_, .i32⟩
  | 111 => ⟨S9088x1664, .i32⟩
  | 112 => ⟨S9088x1664, .i32⟩
  | 113 => ⟨S_, .i32⟩
  | 114 => ⟨S9088x1664, .i32⟩
  | 115 => ⟨S9088x1664, .i1⟩
  | 116 => ⟨S9088x1664, .i1⟩
  | 117 => ⟨S_, .f32⟩
  | 118 => ⟨S_, .f32⟩
  | 119 => ⟨S9088x1664, .f32⟩
  | 120 => ⟨S9088x1664, .f32⟩
  | 121 => ⟨S9088x1664, .f32⟩
  | 122 => ⟨S_, .f32⟩
  | 123 => ⟨S_, .f32⟩
  | 124 => ⟨S9088x1664, .f32⟩
  | 125 => ⟨S9088x1664, .f32⟩
  | 126 => ⟨S9088x1664, .f32⟩
  | 127 => ⟨S_, .f32⟩
  | _ => ⟨S192x1x3328, .bf16⟩

abbrev hbmTy0_1 (i : Nat) : BufTy := match i % 128 with
  | 0 => ⟨S_, .f32⟩
  | 1 => ⟨S9088x1664, .f32⟩
  | 2 => ⟨S9088x1664, .f32⟩
  | 3 => ⟨S9088x1664, .f32⟩
  | 4 => ⟨S_, .f32⟩
  | 5 => ⟨S_, .f32⟩
  | 6 => ⟨S9088x1664, .f32⟩
  | 7 => ⟨S9088x1664, .f32⟩
  | 8 => ⟨S9088x1664, .f32⟩
  | 9 => ⟨S_, .f32⟩
  | 10 => ⟨S_, .f32⟩
  | 11 => ⟨S9088x1664, .f32⟩
  | 12 => ⟨S9088x1664, .f32⟩
  | 13 => ⟨S9088x1664, .f32⟩
  | 14 => ⟨S_, .f32⟩
  | 15 => ⟨S_, .f32⟩
  | 16 => ⟨S9088x1664, .f32⟩
  | 17 => ⟨S9088x1664, .f32⟩
  | 18 => ⟨S9088x1664, .f32⟩
  | 19 => ⟨S_, .f32⟩
  | 20 => ⟨S_, .f32⟩
  | 21 => ⟨S9088x1664, .f32⟩
  | 22 => ⟨S9088x1664, .f32⟩
  | 23 => ⟨S9088x1664, .f32⟩
  | 24 => ⟨S_, .f32⟩
  | 25 => ⟨S_, .f32⟩
  | 26 => ⟨S9088x1664, .f32⟩
  | 27 => ⟨S9088x1664, .f32⟩
  | 28 => ⟨S9088x1664, .f32⟩
  | 29 => ⟨S_, .i32⟩
  | 30 => ⟨S9088x1664, .i32⟩
  | 31 => ⟨S9088x1664, .i32⟩
  | 32 => ⟨S_, .i32⟩
  | 33 => ⟨S9088x1664, .i32⟩
  | 34 => ⟨S9088x1664, .i32⟩
  | 35 => ⟨S_, .i32⟩
  | 36 => ⟨S9088x1664, .i32⟩
  | 37 => ⟨S9088x1664, .i1⟩
  | 38 => ⟨S9088x1664, .i1⟩
  | 39 => ⟨S9088x1664, .f32⟩
  | 40 => ⟨S9088x1664, .f32⟩
  | 41 => ⟨S9088x1664, .f32⟩
  | 42 => ⟨S9088x1664, .f32⟩
  | 43 => ⟨S_, .i32⟩
  | 44 => ⟨S9088x1664, .i32⟩
  | 45 => ⟨S9088x1664, .i32⟩
  | 46 => ⟨S_, .i32⟩
  | 47 => ⟨S9088x1664, .i32⟩
  | 48 => ⟨S9088x1664, .i32⟩
  | 49 => ⟨S_, .i32⟩
  | 50 => ⟨S9088x1664, .i32⟩
  | 51 => ⟨S9088x1664, .i1⟩
  | 52 => ⟨S9088x1664, .i1⟩
  | 53 => ⟨S9088x1664, .f32⟩
  | 54 => ⟨S9088x1664, .f32⟩
  | 55 => ⟨S_, .i32⟩
  | 56 => ⟨S9088x1664, .i32⟩
  | 57 => ⟨S9088x1664, .i32⟩
  | 58 => ⟨S_, .i32⟩
  | 59 => ⟨S9088x1664, .i32⟩
  | 60 => ⟨S9088x1664, .i32⟩
  | 61 => ⟨S_, .i32⟩
  | 62 => ⟨S9088x1664, .i32⟩
  | 63 => ⟨S9088x1664, .i1⟩
  | 64 => ⟨S9088x1664, .i1⟩
  | 65 => ⟨S9088x1664, .f32⟩
  | 66 => ⟨S9088x1664, .f32⟩
  | 67 => ⟨S9088x1664, .bf16⟩
  | 68 => ⟨S192x9088, .f32⟩
  | 69 => ⟨S192x9088, .f32⟩
  | 70 => ⟨S192x9088, .f32⟩
  | 71 => ⟨S192x9088, .bf16⟩
  | 72 => ⟨S192x1x9088, .bf16⟩
  | _ => ⟨S192x1x3328, .bf16⟩

abbrev hbmTy (i : Nat) : BufTy := match i / 128 with
  | 0 => hbmTy0_0 i
  | 1 => hbmTy0_1 i
  | _ => ⟨S192x1x3328, .bf16⟩

abbrev bufTy : (tb : Table) → Fin (tcTables nBuf tb) → BufTy
  | .hbm, ⟨i, _⟩ => hbmTy i
  | _, _ => ⟨S192x1x3328, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_cst_4 : Ref sig .tc := ⟨.hbm, 30, rfl⟩
abbrev main_cst_5 : Ref sig .tc := ⟨.hbm, 31, rfl⟩
abbrev main_call1_v0 : Ref sig .tc := ⟨.hbm, 32, rfl⟩
abbrev main_call1_v1 : Ref sig .tc := ⟨.hbm, 33, rfl⟩
abbrev main_v19 : Ref sig .tc := ⟨.hbm, 34, rfl⟩
abbrev main_cst_6 : Ref sig .tc := ⟨.hbm, 35, rfl⟩
abbrev main_cst_7 : Ref sig .tc := ⟨.hbm, 36, rfl⟩
abbrev main_call2_v0 : Ref sig .tc := ⟨.hbm, 37, rfl⟩
abbrev main_call2_v1 : Ref sig .tc := ⟨.hbm, 38, rfl⟩
abbrev main_v20 : Ref sig .tc := ⟨.hbm, 39, rfl⟩
abbrev main_cst_8 : Ref sig .tc := ⟨.hbm, 40, rfl⟩
abbrev main_cst_9 : Ref sig .tc := ⟨.hbm, 41, rfl⟩
abbrev main_call3_v0 : Ref sig .tc := ⟨.hbm, 42, rfl⟩
abbrev main_call3_v1 : Ref sig .tc := ⟨.hbm, 43, rfl⟩
abbrev main_v21 : Ref sig .tc := ⟨.hbm, 44, rfl⟩
abbrev main_cst_10 : Ref sig .tc := ⟨.hbm, 45, rfl⟩
abbrev main_cst_11 : Ref sig .tc := ⟨.hbm, 46, rfl⟩
abbrev main_call4_v0 : Ref sig .tc := ⟨.hbm, 47, rfl⟩
abbrev main_call4_v1 : Ref sig .tc := ⟨.hbm, 48, rfl⟩
abbrev main_v22 : Ref sig .tc := ⟨.hbm, 49, rfl⟩
abbrev main_cst_12 : Ref sig .tc := ⟨.hbm, 50, rfl⟩
abbrev main_cst_13 : Ref sig .tc := ⟨.hbm, 51, rfl⟩
abbrev main_call5_v0 : Ref sig .tc := ⟨.hbm, 52, rfl⟩
abbrev main_call5_v1 : Ref sig .tc := ⟨.hbm, 53, rfl⟩
abbrev main_v23 : Ref sig .tc := ⟨.hbm, 54, rfl⟩
abbrev main_cst_14 : Ref sig .tc := ⟨.hbm, 55, rfl⟩
abbrev main_cst_15 : Ref sig .tc := ⟨.hbm, 56, rfl⟩
abbrev main_call6_v0 : Ref sig .tc := ⟨.hbm, 57, rfl⟩
abbrev main_call6_v1 : Ref sig .tc := ⟨.hbm, 58, rfl⟩
abbrev main_v24 : Ref sig .tc := ⟨.hbm, 59, rfl⟩
abbrev main_cst_16 : Ref sig .tc := ⟨.hbm, 60, rfl⟩
abbrev main_cst_17 : Ref sig .tc := ⟨.hbm, 61, rfl⟩
abbrev main_call7_v0 : Ref sig .tc := ⟨.hbm, 62, rfl⟩
abbrev main_call7_v1 : Ref sig .tc := ⟨.hbm, 63, rfl⟩
abbrev main_v25 : Ref sig .tc := ⟨.hbm, 64, rfl⟩
abbrev main_c_18 : Ref sig .tc := ⟨.hbm, 65, rfl⟩
abbrev main_v26 : Ref sig .tc := ⟨.hbm, 66, rfl⟩
abbrev main_v27 : Ref sig .tc := ⟨.hbm, 67, rfl⟩
abbrev main_c_19 : Ref sig .tc := ⟨.hbm, 68, rfl⟩
abbrev main_v28 : Ref sig .tc := ⟨.hbm, 69, rfl⟩
abbrev main_v29 : Ref sig .tc := ⟨.hbm, 70, rfl⟩
abbrev main_c_20 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_c_21 : Ref sig .tc := ⟨.hbm, 79, rfl⟩
abbrev main_v37 : Ref sig .tc := ⟨.hbm, 80, rfl⟩
abbrev main_v38 : Ref sig .tc := ⟨.hbm, 81, rfl⟩
abbrev main_c_22 : Ref sig .tc := ⟨.hbm, 82, rfl⟩
abbrev main_v39 : Ref sig .tc := ⟨.hbm, 83, rfl⟩
abbrev main_v40 : Ref sig .tc := ⟨.hbm, 84, rfl⟩
abbrev main_c_23 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_c_24 : Ref sig .tc := ⟨.hbm, 91, rfl⟩
abbrev main_v46 : Ref sig .tc := ⟨.hbm, 92, rfl⟩
abbrev main_v47 : Ref sig .tc := ⟨.hbm, 93, rfl⟩
abbrev main_c_25 : Ref sig .tc := ⟨.hbm, 94, rfl⟩
abbrev main_v48 : Ref sig .tc := ⟨.hbm, 95, rfl⟩
abbrev main_v49 : Ref sig .tc := ⟨.hbm, 96, rfl⟩
abbrev main_c_26 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_c_27 : Ref sig .tc := ⟨.hbm, 104, rfl⟩
abbrev main_v56 : Ref sig .tc := ⟨.hbm, 105, rfl⟩
abbrev main_v57 : Ref sig .tc := ⟨.hbm, 106, rfl⟩
abbrev main_c_28 : Ref sig .tc := ⟨.hbm, 107, rfl⟩
abbrev main_v58 : Ref sig .tc := ⟨.hbm, 108, rfl⟩
abbrev main_v59 : Ref sig .tc := ⟨.hbm, 109, rfl⟩
abbrev main_c_29 : Ref sig .tc := ⟨.hbm, 110, rfl⟩
abbrev main_v60 : Ref sig .tc := ⟨.hbm, 111, rfl⟩
abbrev main_v61 : Ref sig .tc := ⟨.hbm, 112, rfl⟩
abbrev main_c_30 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_cst_31 : Ref sig .tc := ⟨.hbm, 117, rfl⟩
abbrev main_cst_32 : Ref sig .tc := ⟨.hbm, 118, rfl⟩
abbrev main_call15_v0 : Ref sig .tc := ⟨.hbm, 119, rfl⟩
abbrev main_call15_v1 : Ref sig .tc := ⟨.hbm, 120, rfl⟩
abbrev main_v65 : Ref sig .tc := ⟨.hbm, 121, rfl⟩
abbrev main_cst_33 : Ref sig .tc := ⟨.hbm, 122, rfl⟩
abbrev main_cst_34 : Ref sig .tc := ⟨.hbm, 123, rfl⟩
abbrev main_call16_v0 : Ref sig .tc := ⟨.hbm, 124, rfl⟩
abbrev main_call16_v1 : Ref sig .tc := ⟨.hbm, 125, rfl⟩
abbrev main_v66 : Ref sig .tc := ⟨.hbm, 126, rfl⟩
abbrev main_cst_35 : Ref sig .tc := ⟨.hbm, 127, rfl⟩
abbrev main_cst_36 : Ref sig .tc := ⟨.hbm, 128, rfl⟩
abbrev main_call17_v0 : Ref sig .tc := ⟨.hbm, 129, rfl⟩
abbrev main_call17_v1 : Ref sig .tc := ⟨.hbm, 130, rfl⟩
abbrev main_v67 : Ref sig .tc := ⟨.hbm, 131, rfl⟩
abbrev main_cst_37 : Ref sig .tc := ⟨.hbm, 132, rfl⟩
abbrev main_cst_38 : Ref sig .tc := ⟨.hbm, 133, rfl⟩
abbrev main_call18_v0 : Ref sig .tc := ⟨.hbm, 134, rfl⟩
abbrev main_call18_v1 : Ref sig .tc := ⟨.hbm, 135, rfl⟩
abbrev main_v68 : Ref sig .tc := ⟨.hbm, 136, rfl⟩
abbrev main_cst_39 : Ref sig .tc := ⟨.hbm, 137, rfl⟩
abbrev main_cst_40 : Ref sig .tc := ⟨.hbm, 138, rfl⟩
abbrev main_call19_v0 : Ref sig .tc := ⟨.hbm, 139, rfl⟩
abbrev main_call19_v1 : Ref sig .tc := ⟨.hbm, 140, rfl⟩
abbrev main_v69 : Ref sig .tc := ⟨.hbm, 141, rfl⟩
abbrev main_cst_41 : Ref sig .tc := ⟨.hbm, 142, rfl⟩
abbrev main_cst_42 : Ref sig .tc := ⟨.hbm, 143, rfl⟩
abbrev main_call20_v0 : Ref sig .tc := ⟨.hbm, 144, rfl⟩
abbrev main_call20_v1 : Ref sig .tc := ⟨.hbm, 145, rfl⟩
abbrev main_v70 : Ref sig .tc := ⟨.hbm, 146, rfl⟩
abbrev main_cst_43 : Ref sig .tc := ⟨.hbm, 147, rfl⟩
abbrev main_cst_44 : Ref sig .tc := ⟨.hbm, 148, rfl⟩
abbrev main_call21_v0 : Ref sig .tc := ⟨.hbm, 149, rfl⟩
abbrev main_call21_v1 : Ref sig .tc := ⟨.hbm, 150, rfl⟩
abbrev main_v71 : Ref sig .tc := ⟨.hbm, 151, rfl⟩
abbrev main_cst_45 : Ref sig .tc := ⟨.hbm, 152, rfl⟩
abbrev main_cst_46 : Ref sig .tc := ⟨.hbm, 153, rfl⟩
abbrev main_call22_v0 : Ref sig .tc := ⟨.hbm, 154, rfl⟩
abbrev main_call22_v1 : Ref sig .tc := ⟨.hbm, 155, rfl⟩
abbrev main_v72 : Ref sig .tc := ⟨.hbm, 156, rfl⟩
abbrev main_c_47 : Ref sig .tc := ⟨.hbm, 157, rfl⟩
abbrev main_v73 : Ref sig .tc := ⟨.hbm, 158, rfl⟩
abbrev main_v74 : Ref sig .tc := ⟨.hbm, 159, rfl⟩
abbrev main_c_48 : Ref sig .tc := ⟨.hbm, 160, rfl⟩
abbrev main_v75 : Ref sig .tc := ⟨.hbm, 161, rfl⟩
abbrev main_v76 : Ref sig .tc := ⟨.hbm, 162, rfl⟩
abbrev main_c_49 : Ref sig .tc := ⟨.hbm, 163, rfl⟩
abbrev main_v77 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_v83 : Ref sig .tc := ⟨.hbm, 170, rfl⟩
abbrev main_c_50 : Ref sig .tc := ⟨.hbm, 171, rfl⟩
abbrev main_v84 : Ref sig .tc := ⟨.hbm, 172, rfl⟩
abbrev main_v85 : Ref sig .tc := ⟨.hbm, 173, rfl⟩
abbrev main_c_51 : Ref sig .tc := ⟨.hbm, 174, rfl⟩
abbrev main_v86 : Ref sig .tc := ⟨.hbm, 175, rfl⟩
abbrev main_v87 : Ref sig .tc := ⟨.hbm, 176, rfl⟩
abbrev main_c_52 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_c_53 : Ref sig .tc := ⟨.hbm, 183, rfl⟩
abbrev main_v93 : Ref sig .tc := ⟨.hbm, 184, rfl⟩
abbrev main_v94 : Ref sig .tc := ⟨.hbm, 185, rfl⟩
abbrev main_c_54 : Ref sig .tc := ⟨.hbm, 186, rfl⟩
abbrev main_v95 : Ref sig .tc := ⟨.hbm, 187, rfl⟩
abbrev main_v96 : Ref sig .tc := ⟨.hbm, 188, rfl⟩
abbrev main_c_55 : Ref sig .tc := ⟨.hbm, 189, rfl⟩
abbrev main_v97 : Ref sig .tc := ⟨.hbm, 190, rfl⟩
abbrev main_v98 : Ref sig .tc := ⟨.hbm, 191, rfl⟩
abbrev main_v99 : Ref sig .tc := ⟨.hbm, 192, rfl⟩
abbrev main_v100 : Ref sig .tc := ⟨.hbm, 193, rfl⟩
abbrev main_v101 : Ref sig .tc := ⟨.hbm, 194, rfl⟩
abbrev main_v102 : Ref sig .tc := ⟨.hbm, 195, rfl⟩
abbrev main_v103 : Ref sig .tc := ⟨.hbm, 196, rfl⟩
abbrev main_v104 : Ref sig .tc := ⟨.hbm, 197, rfl⟩
abbrev main_v105 : Ref sig .tc := ⟨.hbm, 198, rfl⟩
abbrev main_v106 : Ref sig .tc := ⟨.hbm, 199, rfl⟩
abbrev main_v107 : Ref sig .tc := ⟨.hbm, 200, rfl⟩

abbrev nD : Nat := 1
abbrev τ : Topo := Topo.v7x

variable {F : FTy → Type} [FloatOps F]
-- ==== Proof.Kernel.Run.lean ====
/-
  The run of the kernel's body, for every float instance: from the six buffers held whole, the body runs to its return and
  hands the three inputs back as they were, with the output and the two scratch buffers at contents that the run finds.
-/
module

public import proofs.«01_k».proof.Proof.Gen.Kernel
public import proofs.«01_k».proof.Proof.Gen.Kernel.Skeleton
public import proofs.«01_k».proof.Proof.Gen.Kernel.Frame
public import Idealize.ShloMosaic.Lib.Tactic

@[expose] public section

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- What the body leaves in the output and the scratch buffers, with the proof that it does. -/
noncomputable def kernelRun (c : Dev nD) (i : grid0.Coords)
    (M1 : Memref sig .tc .vmem S192x3328 .bf16) (h1 : M1.IsWhole) (M2 : Memref sig .tc .vmem S512x1664 .i8) (h2 : M2.IsWhole)
    (M3 : Memref sig .tc .vmem S512x52 .f32) (h3 : M3.IsWhole) (M4 : Memref sig .tc .vmem S192x512 .bf16) (h4 : M4.IsWhole)
    (M5 : Memref sig .tc .vmem S3328x512 .bf16) (h5 : M5.IsWhole) (M6 : Memref sig .tc .vmem S52x512 .f32) (h6 : M6.IsWhole)
    (f1 : Bf (F := F) c M1) (f2 : Bf (F := F) c M2) (f3 : Bf (F := F) c M3) :
    { W : Bf (F := F) c M4 → Bf (F := F) c M5 → Bf (F := F) c M6 → Bf (F := F) c M4 × Bf (F := F) c M5 × Bf (F := F) c M6 //
      ∀ (f4 : Bf (F := F) c M4) (f5 : Bf (F := F) c M5) (f6 : Bf (F := F) c M6) (E : Set ℕ) (Q : PUnit → sProp 𝕄),
        iprop(pt c M1 f1 ∗ pt c M2 f2 ∗ pt c M3 f3 ∗ pt c M4 f4 ∗ pt c M5 f5 ∗ pt c M6 f6
          ∗ (iprop(pt c M1 f1 ∗ pt c M2 f2 ∗ pt c M3 f3 ∗ pt c M4 (W f4 f5 f6).1 ∗ pt c M5 (W f4 f5 f6).2.1 ∗ pt c M6 (W f4 f5 f6).2.2) -∗ Q ⟨⟩))
        ⊢ wp frame (wpE (defs₀ (F := F)) Variants.none c none) E
            (cc0_nf4_linear i M1 h1 M2 h2 M3 h3 M4 h4 M5 h5 M6 h6) Q } := by
  refine ⟨fun f4 f5 f6 => ⟨?_, ?_, ?_⟩, fun f4 f5 f6 E Q => ?run⟩
  case run =>
    iintro ⟨H1, H2, H3, H4, H5, H6, Hk⟩
    sl_exec_parts!
    sl_step
    iapply Hk
    isplitl [H1]; · iexact H1
    isplitl [H2]; · iexact H2
    isplitl [H3]; · iexact H3
    isplitl [H4]; · iexact H4
    isplitl [H5]; · iexact H5
    iexact H6

end Cert.Kernel.Hand

end
-- ==== Proof.Kernel.Frame.lean ====
/-
  The frame of the kernel at its machine floats: the body obligation from the body's run, with the output window left
  unnamed, and the run of `main` through the pipeline and the reshape after it.
-/
module

public import proofs.«01_k».proof.Proof.Kernel.Run
public import proofs.«01_k».proof.Proof.Gen.Kernel.Launch
public import proofs.«01_k».proof.Proof.Gen.Kernel.Points
public import proofs.«01_k».proof.Proof.Gen.Kernel.Frame
public import Idealize.ShloMosaic.Lib.Pipeline.FrameSuffix
public import Idealize.ShloMosaic.Lib.Tactic

@[expose] public section

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf kernel pipe)

variable {F : FTy → Type} [FloatOps F]

local notation "𝕄" => MT nD τ sig Unit (Elt F) ℕ (UR sig nD τ) ℕ

/-- A whole memref owned at contents `X` is its buffer held whole at some contents that read as `X`. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

/-- The body between buffers owned through their memrefs: the inputs come back as they were, the output and the scratch
    buffers at something. -/
theorem sound_body (c : Dev nD) (E : Set ℕ) (i : grid0.Coords)
    (M1 : Memref sig .tc .vmem S192x3328 .bf16) (h1 : M1.IsWhole) (M2 : Memref sig .tc .vmem S512x1664 .i8) (h2 : M2.IsWhole)
    (M3 : Memref sig .tc .vmem S512x52 .f32) (h3 : M3.IsWhole) (M4 : Memref sig .tc .vmem S192x512 .bf16) (h4 : M4.IsWhole)
    (M5 : Memref sig .tc .vmem S3328x512 .bf16) (h5 : M5.IsWhole) (M6 : Memref sig .tc .vmem S52x512 .f32) (h6 : M6.IsWhole)
    (X1 : S192x3328.Idx → Elt F .bf16) (X2 : S512x1664.Idx → Elt F .i8) (X3 : S512x52.Idx → Elt F .f32) (K : PUnit → sProp 𝕄) :
    iprop(owns (c : Thread nD τ) M1 fullShare X1 ∗ owns (c : Thread nD τ) M2 fullShare X2 ∗ owns (c : Thread nD τ) M3 fullShare X3
        ∗ (∃ X, owns (c : Thread nD τ) M4 fullShare X) ∗ (∃ f, pt c M5 f) ∗ (∃ f, pt c M6 f)
        ∗ (iprop(owns (c : Thread nD τ) M1 fullShare X1 ∗ owns (c : Thread nD τ) M2 fullShare X2 ∗ owns (c : Thread nD τ) M3 fullShare X3
            ∗ (∃ X, owns (c : Thread nD τ) M4 fullShare X) ∗ (∃ f, pt c M5 f) ∗ (∃ f, pt c M6 f)) -∗ K ⟨⟩))
      ⊢ wp frame (wpE (defs₀ (F := F)) Variants.none c none) E (cc0_nf4_linear i M1 h1 M2 h2 M3 h3 M4 h4 M5 h5 M6 h6) K := by
  rw [owns_pt c M1 h1, owns_pt c M2 h2, owns_pt c M3 h3]
  simp only [owns_pt c M4 h4]
  iintro ⟨⟨%f1, %hf1, H1⟩, ⟨%f2, %hf2, H2⟩, ⟨%f3, %hf3, H3⟩, ⟨%X4, %f4, -, H4⟩, ⟨%f5, H5⟩, ⟨%f6, H6⟩, Hk⟩
  iapply ((kernelRun c i M1 h1 M2 h2 M3 h3 M4 h4 M5 h5 M6 h6 f1 f2 f3).2 f4 f5 f6 E K)
  isplitl [H1]; · iexact H1
  isplitl [H2]; · iexact H2
  isplitl [H3]; · iexact H3
  isplitl [H4]; · iexact H4
  isplitl [H5]; · iexact H5
  isplitl [H6]; · iexact H6
  generalize (kernelRun c i M1 h1 M2 h2 M3 h3 M4 h4 M5 h5 M6 h6 f1 f2 f3).1 f4 f5 f6 = W
  iintro ⟨H1, H2, H3, H4, H5, H6⟩
  iapply Hk
  isplitl [H1]; · iexists f1; isplitr; · ipureintro; exact hf1
                  iexact H1
  isplitl [H2]; · iexists f2; isplitr; · ipureintro; exact hf2
                  iexact H2
  isplitl [H3]; · iexists f3; isplitr; · ipureintro; exact hf3
                  iexact H3
  isplitl [H4]; · iexists _; iexists W.1; isplitr; · ipureintro; rfl
                  iexact H4
  isplitl [H5]; · iexists W.2.1; iexact H5
  iexists W.2.2; iexact H6

variable (m : (ℓ : Loc nD τ sig) → Buf (Elt F) ℓ) (ρ : Dev nD → PrngReg)

/-- The proof data: the arrays as the region finds them; after the body the inputs' staging buffers hold their blocks,
    filled out past the arrays' end with a word nothing reads; the output's staging buffer is not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Classical.arbitrary _) (iblk m c 1 t)
    | ⟨2, _⟩ => win0_2.fill (grid0.coords t) (fun _ => Classical.arbitrary _) (iblk m c 2 t)
    | ⟨3, _⟩ => fun _ => Classical.arbitrary _
  Φ _ := Pipeline.ΦA spec0 c
  q _ := fullShare
  owed _ := 0

/-- The windows whose contents nothing names: the output's. -/
def fgt : Fin cfg0.W → Bool := fun w => match w with | ⟨3, _⟩ => true | _ => false

theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) :
    (dats m 0 c).before 1 t d = win0_1.fill (grid0.coords t) d (iblk m c 1 t) := by
  unfold Dat.before; rw [if_pos (fetch0_1 t)]; rfl
theorem before_2 (c : Dev nD) (t : Fin cfg0.N) (d) :
    (dats m 0 c).before 2 t d = win0_2.fill (grid0.coords t) d (iblk m c 2 t) := by
  unfold Dat.before; rw [if_pos (fetch0_2 t)]; rfl

set_option maxHeartbeats 2000000 in
/-- The body obligation, the output window forgotten. -/
theorem body_obligation (c : Dev nD) : BodyObligationLoose (dats m 0 c) (defs₀ (F := F)) Variants.none () Set.univ fgt := fun t => by
  rw [bigSep_W0, bigSep_W0]
  simp only [fgt]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA; rw [scopedRest0_eq]
  iintro ⟨⟨⟨H5, H6⟩, Hg⟩, Ho, ⟨%d0, H0⟩, ⟨%d1, H1⟩, ⟨%d2, H2⟩, H3⟩
  rw [before_0 m c t d0, before_1 m c t d1, before_2 m c t d2]
  iapply (sound_body (F := F) c Set.univ (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (Memref.whole cc0_scratch0) (Memref.isWhole_whole _) (Memref.whole cc0_scratch1) (Memref.isWhole_whole _)
    (iblk m c 0 t) (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexact H3
  isplitl [H5]; · iexact H5
  isplitl [H6]; · iexact H6
  iintro ⟨H0, H1, H2, H3, H5, H6⟩
  isplitl [H5 H6 Hg]
  · isplitr [Hg]
    · isplitl [H5]; · iexact H5
      iexact H6
    · iexact Hg
  isplitl [Ho]; · iexact Ho
  have hx : win0_1.cut (grid0.coords t) ((dats m 0 c).after 1 t) = iblk m c 1 t := win0_1.cut_fill _ _ _
  have hy : win0_2.cut (grid0.coords t) ((dats m 0 c).after 2 t) = iblk m c 2 t := win0_2.cut_fill _ _ _
  isplitl [H0]; · iexact H0
  isplitl [H1]
  · iexists d1
    change _ ⊢ owns (c : Thread nD τ) (win0_1.stage (cfg0.slots t 1)) fullShare (win0_1.fill (grid0.coords t) d1 (win0_1.cut (grid0.coords t) ((dats m 0 c).after 1 t)))
    rw [hx]; try iexact H1
  isplitl [H2]
  · iexists d2
    change _ ⊢ owns (c : Thread nD τ) (win0_2.stage (cfg0.slots t 2)) fullShare (win0_2.fill (grid0.coords t) d2 (win0_2.cut (grid0.coords t) ((dats m 0 c).after 2 t)))
    rw [hy]; try iexact H2
  iexact H3

set_option backward.isDefEq.respectTransparency.types false in
/-- The frame run: every input array ends at what the region found, every other buffer but the reshaped result at what it
    held, and every semaphore counter at zero. -/
theorem frame_run : θ_run defs (onTc (τ := τ) (main (F := F))) (s₀ m ρ)
    (fun r => Pipeline.RDat.FramePostR cfg0 (fun c => (dats m 0 c).toRForget fgt) {main_v4} (fun c b => V0 m c (Proc.devRef .tc b)) r
      ∧ r.2.sem = fun _ => 0) :=
  Pipeline.θ_run_frame_around_T_forget cfgs (dats m) 0 launch0 defs₀ Variants.none fgt {main_v4} m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hT := by
      intro ops hops op hop b hb
      simp only [List.mem_cons, List.mem_nil_iff, or_false] at hops
      rcases hops with rfl
      simp only [hostOps1, List.mem_cons, List.mem_nil_iff, or_false] at hop
      rcases hop with rfl
      rw [StableHlo.reshape_writes, Finset.mem_singleton] at hb
      exact Finset.mem_singleton.mpr (by by_contra h; exact StableHlo.devRef_ne_of_ne h hb))
    (hmain := hmain m Variants.none) (hA := fun _ _ => rfl) (hΦ := fun _ _ => rfl)
    (Q' := fun r => Pipeline.RDat.FramePostR cfg0 (fun c => (dats m 0 c).toRForget fgt) {main_v4} (fun c b => V0 m c (Proc.devRef .tc b)) r
      ∧ r.2.sem = fun _ => 0)
    (hQ' := fun _ h => h)

/-- The kernel runs, leaves its arguments as it found them, and every semaphore counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨
      ((h.1 c).2 main_arg0 (Finset.mem_sdiff.mpr ⟨Pipeline.mem_restRefs_of main_arg0 (by decide) (by decide), by decide⟩)).trans (V_main_arg0 m c),
      (Pipeline.RDat.FramePostR.arr_in h.1 c 1 rfl).trans (V_main_arg1 m c),
      (Pipeline.RDat.FramePostR.arr_in h.1 c 2 rfl).trans (V_main_arg2 m c)⟩, h.2⟩) (frame_run m ρ)

end Cert.Kernel.Hand

end
-- ==== Proof.KernelIdeal.Run.lean ====
/-
  The run of the kernel's body, for every float instance: from the six buffers held whole, the body runs to its return and
  hands the three inputs back as they were, with the output and the two scratch buffers at contents that the run finds.
-/
module

public import proofs.«01_k».proof.Proof.Gen.KernelIdeal
public import proofs.«01_k».proof.Proof.Gen.KernelIdeal.Skeleton
public import proofs.«01_k».proof.Proof.Gen.KernelIdeal.Frame
public import Idealize.ShloMosaic.Lib.Tactic

@[expose] public section

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- What the body leaves in the output and the scratch buffers, with the proof that it does. -/
noncomputable def kernelRun (c : Dev nD) (i : grid0.Coords)
    (M1 : Memref sig .tc .vmem S192x3328 .bf16) (h1 : M1.IsWhole) (M2 : Memref sig .tc .vmem S512x1664 .i8) (h2 : M2.IsWhole)
    (M3 : Memref sig .tc .vmem S512x52 .f32) (h3 : M3.IsWhole) (M4 : Memref sig .tc .vmem S192x512 .bf16) (h4 : M4.IsWhole)
    (M5 : Memref sig .tc .vmem S3328x512 .bf16) (h5 : M5.IsWhole) (M6 : Memref sig .tc .vmem S52x512 .f32) (h6 : M6.IsWhole)
    (f1 : Bf (F := F) c M1) (f2 : Bf (F := F) c M2) (f3 : Bf (F := F) c M3) :
    { W : Bf (F := F) c M4 → Bf (F := F) c M5 → Bf (F := F) c M6 → Bf (F := F) c M4 × Bf (F := F) c M5 × Bf (F := F) c M6 //
      ∀ (f4 : Bf (F := F) c M4) (f5 : Bf (F := F) c M5) (f6 : Bf (F := F) c M6) (E : Set ℕ) (Q : PUnit → sProp 𝕄),
        iprop(pt c M1 f1 ∗ pt c M2 f2 ∗ pt c M3 f3 ∗ pt c M4 f4 ∗ pt c M5 f5 ∗ pt c M6 f6
          ∗ (iprop(pt c M1 f1 ∗ pt c M2 f2 ∗ pt c M3 f3 ∗ pt c M4 (W f4 f5 f6).1 ∗ pt c M5 (W f4 f5 f6).2.1 ∗ pt c M6 (W f4 f5 f6).2.2) -∗ Q ⟨⟩))
        ⊢ wp frame (wpE (defs₀ (F := F)) Variants.none c none) E
            (cc0_nf4_linear i M1 h1 M2 h2 M3 h3 M4 h4 M5 h5 M6 h6) Q } := by
  refine ⟨fun f4 f5 f6 => ⟨?_, ?_, ?_⟩, fun f4 f5 f6 E Q => ?run⟩
  case run =>
    iintro ⟨H1, H2, H3, H4, H5, H6, Hk⟩
    sl_exec_parts!
    sl_step
    iapply Hk
    isplitl [H1]; · iexact H1
    isplitl [H2]; · iexact H2
    isplitl [H3]; · iexact H3
    isplitl [H4]; · iexact H4
    isplitl [H5]; · iexact H5
    iexact H6

end Cert.KernelIdeal.Hand

end
-- ==== Proof.KernelIdeal.Frame.lean ====
/-
  The frame of the kernel at its machine floats: the body obligation from the body's run, with the output window left
  unnamed, and the run of `main` through the pipeline and the reshape after it.
-/
module

public import proofs.«01_k».proof.Proof.KernelIdeal.Run
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameSuffix
public import Idealize.ShloMosaic.Lib.Tactic

@[expose] public section

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf kernel pipe)

variable {F : FTy → Type} [FloatOps F]

local notation "𝕄" => MT nD τ sig Unit (Elt F) ℕ (UR sig nD τ) ℕ

/-- A whole memref owned at contents `X` is its buffer held whole at some contents that read as `X`. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

/-- The body between buffers owned through their memrefs: the inputs come back as they were, the output and the scratch
    buffers at something. -/
theorem sound_body (c : Dev nD) (E : Set ℕ) (i : grid0.Coords)
    (M1 : Memref sig .tc .vmem S192x3328 .bf16) (h1 : M1.IsWhole) (M2 : Memref sig .tc .vmem S512x1664 .i8) (h2 : M2.IsWhole)
    (M3 : Memref sig .tc .vmem S512x52 .f32) (h3 : M3.IsWhole) (M4 : Memref sig .tc .vmem S192x512 .bf16) (h4 : M4.IsWhole)
    (M5 : Memref sig .tc .vmem S3328x512 .bf16) (h5 : M5.IsWhole) (M6 : Memref sig .tc .vmem S52x512 .f32) (h6 : M6.IsWhole)
    (X1 : S192x3328.Idx → Elt F .bf16) (X2 : S512x1664.Idx → Elt F .i8) (X3 : S512x52.Idx → Elt F .f32) (K : PUnit → sProp 𝕄) :
    iprop(owns (c : Thread nD τ) M1 fullShare X1 ∗ owns (c : Thread nD τ) M2 fullShare X2 ∗ owns (c : Thread nD τ) M3 fullShare X3
        ∗ (∃ X, owns (c : Thread nD τ) M4 fullShare X) ∗ (∃ f, pt c M5 f) ∗ (∃ f, pt c M6 f)
        ∗ (iprop(owns (c : Thread nD τ) M1 fullShare X1 ∗ owns (c : Thread nD τ) M2 fullShare X2 ∗ owns (c : Thread nD τ) M3 fullShare X3
            ∗ (∃ X, owns (c : Thread nD τ) M4 fullShare X) ∗ (∃ f, pt c M5 f) ∗ (∃ f, pt c M6 f)) -∗ K ⟨⟩))
      ⊢ wp frame (wpE (defs₀ (F := F)) Variants.none c none) E (cc0_nf4_linear i M1 h1 M2 h2 M3 h3 M4 h4 M5 h5 M6 h6) K := by
  rw [owns_pt c M1 h1, owns_pt c M2 h2, owns_pt c M3 h3]
  simp only [owns_pt c M4 h4]
  iintro ⟨⟨%f1, %hf1, H1⟩, ⟨%f2, %hf2, H2⟩, ⟨%f3, %hf3, H3⟩, ⟨%X4, %f4, -, H4⟩, ⟨%f5, H5⟩, ⟨%f6, H6⟩, Hk⟩
  iapply ((kernelRun c i M1 h1 M2 h2 M3 h3 M4 h4 M5 h5 M6 h6 f1 f2 f3).2 f4 f5 f6 E K)
  isplitl [H1]; · iexact H1
  isplitl [H2]; · iexact H2
  isplitl [H3]; · iexact H3
  isplitl [H4]; · iexact H4
  isplitl [H5]; · iexact H5
  isplitl [H6]; · iexact H6
  generalize (kernelRun c i M1 h1 M2 h2 M3 h3 M4 h4 M5 h5 M6 h6 f1 f2 f3).1 f4 f5 f6 = W
  iintro ⟨H1, H2, H3, H4, H5, H6⟩
  iapply Hk
  isplitl [H1]; · iexists f1; isplitr; · ipureintro; exact hf1
                  iexact H1
  isplitl [H2]; · iexists f2; isplitr; · ipureintro; exact hf2
                  iexact H2
  isplitl [H3]; · iexists f3; isplitr; · ipureintro; exact hf3
                  iexact H3
  isplitl [H4]; · iexists _; iexists W.1; isplitr; · ipureintro; rfl
                  iexact H4
  isplitl [H5]; · iexists W.2.1; iexact H5
  iexists W.2.2; iexact H6

variable (m : (ℓ : Loc nD τ sig) → Buf (Elt F) ℓ) (ρ : Dev nD → PrngReg)

/-- The proof data: the arrays as the region finds them; after the body the inputs' staging buffers hold their blocks,
    filled out past the arrays' end with a word nothing reads; the output's staging buffer is not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Classical.arbitrary _) (iblk m c 1 t)
    | ⟨2, _⟩ => win0_2.fill (grid0.coords t) (fun _ => Classical.arbitrary _) (iblk m c 2 t)
    | ⟨3, _⟩ => fun _ => Classical.arbitrary _
  Φ _ := Pipeline.ΦA spec0 c
  q _ := fullShare
  owed _ := 0

/-- The windows whose contents nothing names: the output's. -/
def fgt : Fin cfg0.W → Bool := fun w => match w with | ⟨3, _⟩ => true | _ => false

theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) :
    (dats m 0 c).before 1 t d = win0_1.fill (grid0.coords t) d (iblk m c 1 t) := by
  unfold Dat.before; rw [if_pos (fetch0_1 t)]; rfl
theorem before_2 (c : Dev nD) (t : Fin cfg0.N) (d) :
    (dats m 0 c).before 2 t d = win0_2.fill (grid0.coords t) d (iblk m c 2 t) := by
  unfold Dat.before; rw [if_pos (fetch0_2 t)]; rfl

set_option maxHeartbeats 2000000 in
/-- The body obligation, the output window forgotten. -/
theorem body_obligation (c : Dev nD) : BodyObligationLoose (dats m 0 c) (defs₀ (F := F)) Variants.none () Set.univ fgt := fun t => by
  rw [bigSep_W0, bigSep_W0]
  simp only [fgt]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA; rw [scopedRest0_eq]
  iintro ⟨⟨⟨H5, H6⟩, Hg⟩, Ho, ⟨%d0, H0⟩, ⟨%d1, H1⟩, ⟨%d2, H2⟩, H3⟩
  rw [before_0 m c t d0, before_1 m c t d1, before_2 m c t d2]
  iapply (sound_body (F := F) c Set.univ (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (Memref.whole cc0_scratch0) (Memref.isWhole_whole _) (Memref.whole cc0_scratch1) (Memref.isWhole_whole _)
    (iblk m c 0 t) (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexact H3
  isplitl [H5]; · iexact H5
  isplitl [H6]; · iexact H6
  iintro ⟨H0, H1, H2, H3, H5, H6⟩
  isplitl [H5 H6 Hg]
  · isplitr [Hg]
    · isplitl [H5]; · iexact H5
      iexact H6
    · iexact Hg
  isplitl [Ho]; · iexact Ho
  have hx : win0_1.cut (grid0.coords t) ((dats m 0 c).after 1 t) = iblk m c 1 t := win0_1.cut_fill _ _ _
  have hy : win0_2.cut (grid0.coords t) ((dats m 0 c).after 2 t) = iblk m c 2 t := win0_2.cut_fill _ _ _
  isplitl [H0]; · iexact H0
  isplitl [H1]
  · iexists d1
    change _ ⊢ owns (c : Thread nD τ) (win0_1.stage (cfg0.slots t 1)) fullShare (win0_1.fill (grid0.coords t) d1 (win0_1.cut (grid0.coords t) ((dats m 0 c).after 1 t)))
    rw [hx]; try iexact H1
  isplitl [H2]
  · iexists d2
    change _ ⊢ owns (c : Thread nD τ) (win0_2.stage (cfg0.slots t 2)) fullShare (win0_2.fill (grid0.coords t) d2 (win0_2.cut (grid0.coords t) ((dats m 0 c).after 2 t)))
    rw [hy]; try iexact H2
  iexact H3

set_option backward.isDefEq.respectTransparency.types false in
/-- The frame run: every input array ends at what the region found, every other buffer but the reshaped result at what it
    held, and every semaphore counter at zero. -/
theorem frame_run : θ_run defs (onTc (τ := τ) (main (F := F))) (s₀ m ρ)
    (fun r => Pipeline.RDat.FramePostR cfg0 (fun c => (dats m 0 c).toRForget fgt) {main_v4} (fun c b => V0 m c (Proc.devRef .tc b)) r
      ∧ r.2.sem = fun _ => 0) :=
  Pipeline.θ_run_frame_around_T_forget cfgs (dats m) 0 launch0 defs₀ Variants.none fgt {main_v4} m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hT := by
      intro ops hops op hop b hb
      simp only [List.mem_cons, List.mem_nil_iff, or_false] at hops
      rcases hops with rfl
      simp only [hostOps1, List.mem_cons, List.mem_nil_iff, or_false] at hop
      rcases hop with rfl
      rw [StableHlo.reshape_writes, Finset.mem_singleton] at hb
      exact Finset.mem_singleton.mpr (by by_contra h; exact StableHlo.devRef_ne_of_ne h hb))
    (hmain := hmain m Variants.none) (hA := fun _ _ => rfl) (hΦ := fun _ _ => rfl)
    (Q' := fun r => Pipeline.RDat.FramePostR cfg0 (fun c => (dats m 0 c).toRForget fgt) {main_v4} (fun c b => V0 m c (Proc.devRef .tc b)) r
      ∧ r.2.sem = fun _ => 0)
    (hQ' := fun _ h => h)

/-- The kernel runs, leaves its arguments as it found them, and every semaphore counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨
      ((h.1 c).2 main_arg0 (Finset.mem_sdiff.mpr ⟨Pipeline.mem_restRefs_of main_arg0 (by decide) (by decide), by decide⟩)).trans (V_main_arg0 m c),
      (Pipeline.RDat.FramePostR.arr_in h.1 c 1 rfl).trans (V_main_arg1 m c),
      (Pipeline.RDat.FramePostR.arr_in h.1 c 2 rfl).trans (V_main_arg2 m c)⟩, h.2⟩) (frame_run m ρ)

end Cert.KernelIdeal.Hand

end
-- ==== Proof.ReferenceIdeal.Frame.lean ====
module

public import proofs.«01_k».proof.Proof.Gen.ReferenceIdeal
public import proofs.«01_k».proof.Proof.Gen.ReferenceIdeal.Run
public import Idealize.ShloMosaic.Lib.Quiescent

@[expose] public section

noncomputable section

namespace Cert.ReferenceIdeal.Hand

open Idealize.ShloMosaic Idealize.ShloMosaic.TcCoe Idealize.SL.Sem Cert.ReferenceIdeal

variable {F : FTy → Type} [FloatOps F]

/-- The reference runs, leaves its arguments as it found them, and every semaphore counter at zero (it declares none). -/
theorem quiescent (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => (h c).2, sem_eq_zero_of_no_sems (by decide) r.2⟩) (Cert.ReferenceIdeal.Value.run m ρ)

end Cert.ReferenceIdeal.Hand

end
-- ==== Proof.KernelIdeal.Pieces.lean ====
/-
  What the kernel's stores into its weight scratch leave there, as ONE recursive list: store `k` of the 832 is written with
  its block, lane group, nibble and byte parity read off `k`.
-/
module

public import proofs.«01_k».proof.Proof.KernelIdeal.Run
import all proofs.«01_k».proof.Proof.KernelIdeal.Run
public import Idealize.ShloMosaic.Lib.Tactic

@[expose] public section

noncomputable section

namespace Cert.KernelIdeal.Hand

open Cert.KernelIdeal Cert.KernelIdeal.Gen

open Idealize.ShloMosaic
open Idealize.ShloMosaic.TcCoe Idealize.ShloMosaic.Tactic
open Idealize.SL Idealize.SL.Sem

variable {F : FTy → Type} [FloatOps F]

/-- The lookup table of the body: row `r` of every lane is level `r`. -/
def table : FVec F S16x128 .f32 := Gen.k0_pay3 (iota .tc S16x128 32 [0] iota_S16x128_d0_w32) Gen.k0_pay1 Gen.k0_pay2

/-- The words of one block and lane group, the nibbles of parity `hi` brought to the low half of each byte. -/
def nibbles (hi : Nat) (v : IVec S8x128 32) : IVec S8x128 32 :=
  ori (andi (cond (Nat.beq hi 1) (shrui v (broadcast S8x128 4#32)) v) (broadcast S8x128 252645135#32)) (broadcast S8x128 2155905152#32)

/-- The bytes of parity `odd` of those words, as sixteen rows of codes. -/
def codes (odd : Nat) (nib : IVec S8x128 32) : IVec S16x128 32 :=
  andi (extui 32 (bitcast S16x128 16 (andi (cond (Nat.beq odd 1) (shrui nib (broadcast S8x128 8#32)) nib) (broadcast S8x128 16711935#32))
    bitcasts_S8x128_w32_S16x128_w16) natLt_16_32) (broadcast S16x128 15#32)

theorem slice_fits {b n : Nat} (hb : b < 52) (hn : n < 4) : S1664x512.Slices ![32 * b, 128 * n] S32x128 :=
  ⟨rfl, fun a => by
    match a with
    | ⟨0, _⟩ => show 32 * b + 32 ≤ 1664; omega
    | ⟨1, _⟩ => show 128 * n + 128 ≤ 512; omega⟩

theorem scale_fits {b n : Nat} (hb : b < 52) (hn : n < 4) :
    ∀ a, (![b, 128 * n] : Fin 2 → Nat) a + S1x128.size a ≤ S52x512.size a := fun a => by
  match a with
  | ⟨0, _⟩ => show b + 1 ≤ 52; omega
  | ⟨1, _⟩ => show 128 * n + 128 ≤ 512; omega

theorem store_fits {k : Nat} (h : k < 832) :
    ∀ a, (![64 * (k / 16) + 16 * (2 * (k % 2) + k / 2 % 2), 128 * (k / 4 % 4)] : Fin 2 → Nat) a + S16x128.size a ≤ S3328x512.size a := fun a => by
  match a with
  | ⟨0, _⟩ => show 64 * (k / 16) + 16 * (2 * (k % 2) + k / 2 % 2) + 16 ≤ 3328; omega
  | ⟨1, _⟩ => show 128 * (k / 4 % 4) + 128 ≤ 512; omega

theorem block_lt {k : Nat} (h : k < 832) : k / 16 < 52 := by omega
theorem group_lt (k : Nat) : k / 4 % 4 < 4 := by omega

/-- The sixteen rows that store `k` writes: the levels named by its codes, each times its lane's scale. `R` reads the scales
    of one block at one lane group, `w` is the window of packed bytes. -/
def payload (w : Vec F S512x1664 .i8)
    (R : (b n : Nat) → (hb : b < 52) → (hn : n < 4) → Vec F S1x128 .f32) (k : Nat) (h : k < 832) : FVec F S16x128 .bf16 :=
  shapeCast S16x128
    (dynamicGather 0
      (truncf .bf16 (mulf table (broadcastTo S16x128 (R (k / 16) (k / 4 % 4) (block_lt h) (group_lt k)) broadcasts_S1x128_S16x128)) bitsLt_bf16_f32)
      (shapeCast S16x128 (shapeCast S16x128x1
        (codes (k % 2) (nibbles (k / 2 % 2) (bitcast S8x128 32
          (extractStridedSlice S32x128 ![32 * (k / 16), 128 * (k / 4 % 4)] (Gen.k0_pay5 w) (slice_fits (block_lt h) (group_lt k)))
          bitcasts_S32x128_w8_S8x128_w32)))
        shapeCasts_S16x128_S16x128x1) shapeCasts_S16x128x1_S16x128))
    shapeCasts_S16x128_S16x128

/-- Store `k`: its sixteen rows at its place in the scratch. -/
def piece (w : Vec F S512x1664 .i8) (R : (b n : Nat) → (hb : b < 52) → (hn : n < 4) → Vec F S1x128 .f32) (k : Nat) (h : k < 832) :
    View.Piece (Elt F) S3328x512 .bf16 :=
  ⟨Rect.unit ![64 * (k / 16) + 16 * (2 * (k % 2) + k / 2 % 2), 128 * (k / 4 % 4)] S16x128.size (store_fits h), payload w R k h⟩

/-- The first `k` stores, the last first. -/
def pieces (w : Vec F S512x1664 .i8) (R : (b n : Nat) → (hb : b < 52) → (hn : n < 4) → Vec F S1x128 .f32) :
    (k : Nat) → k ≤ 832 → List (View.Piece (Elt F) S3328x512 .bf16)
  | 0, _ => []
  | k + 1, h => piece w R k h :: pieces w R k (Nat.le_of_succ_le h)

variable (c : Dev nD) (M1 : Memref sig .tc .vmem S192x3328 .bf16) (M2 : Memref sig .tc .vmem S512x1664 .i8)
    (M3 : Memref sig .tc .vmem S512x52 .f32) (M5 : Memref sig .tc .vmem S3328x512 .bf16) (M6 : Memref sig .tc .vmem S52x512 .f32)
    (f1 : Bf (F := F) c M1) (f2 : Bf (F := F) c M2) (f3 : Bf (F := F) c M3)

/-- The stores of the run are those. -/
theorem stores_eq : kernelRun.sl.H5_832 c M2 M3 M6 f2 f3 = pieces (F := F) (M2.view.readAt (Elt F) (Rect.unit ![0, 0] S512x1664.size inb_S512x1664_S512x1664_0_0).toLoadRect f2)
      (fun b n hb hn => M6.view.readCov (kernelRun.sl.H6_1 c M3 f3) (Rect.unit (s := S52x512) ![b, 128 * n] S1x128.size (scale_fits hb hn)).toLoadRect) 832 (by omega) := by
  sl_kernel_rfl

end Cert.KernelIdeal.Hand

end
-- ==== Proof.Level.lean ====
/-
  The sixteen levels of the code, and the nibbles of a byte: the vocabulary the kernel's and the reference's values share.
-/
module

public import Idealize.ShloMosaic.PureOps.Vector
public import Idealize.ShloMosaic.PureOps.Float
public import Idealize.ShloMosaic.Lib.BitcastFour

@[expose] public section

noncomputable section

namespace Cert.Nf4

open Idealize.ShloMosaic

variable {F : FTy → Type} [FloatOps F]

/-- The sixteen levels, as the words of their `f32` constants. -/
def levelBits (n : Nat) : BitVec 32 :=
  match n with
  | 0 => 0xBF800000#32 | 1 => 0xBF3239B1#32 | 2 => 0xBF066B30#32 | 3 => 0xBECA32A0#32
  | 4 => 0xBE91A24D#32 | 5 => 0xBE3D353F#32 | 6 => 0xBDBA7871#32 | 7 => 0x00000000#32
  | 8 => 0x3DA2FAFF#32 | 9 => 0x3E24CAE3#32 | 10 => 0x3E7C04DD#32 | 11 => 0x3EAD033A#32
  | 12 => 0x3EE1A4B8#32 | 13 => 0x3F1007AB#32 | 14 => 0x3F3913B3#32 | _ => 0x3F800000#32

/-- The level a code word names. -/
def level (w : BitVec 32) : F .f32 := Scalar.ofBits .f32 (levelBits w.toNat)

/-- Nibble `h` of a byte (`0` the low one, `1` the high one), as a code word. -/
def nibble (h : Nat) (x : BitVec 8) : BitVec 32 := (x.setWidth 32 >>> (4 * h)) &&& 15#32

theorem nibble_lt (h : Nat) (x : BitVec 8) : (nibble h x).toNat < 16 := by
  unfold nibble
  rw [BitVec.toNat_and]
  exact Nat.lt_of_le_of_lt Nat.and_le_right (by decide)

/-- Bit by bit: the low four bits are the nibble's, the others are zero. -/
theorem nibble_getLsbD (h : Nat) (x : BitVec 8) (i : Nat) (hi : i < 32) :
    (nibble h x).getLsbD i = (decide (i < 4) && x.getLsbD (4 * h + i)) := by
  have h15 : (15#32 : BitVec 32).getLsbD i = decide (i < 4) := by
    interval_cases i <;> rfl
  simp only [nibble, BitVec.getLsbD_and, BitVec.getLsbD_ushiftRight, BitVec.getLsbD_setWidth, h15]
  by_cases h4 : i < 4
  · by_cases hb : 4 * h + i < 32
    · simp [h4, hb]
    · have : x.getLsbD (4 * h + i) = false := BitVec.getLsbD_of_ge x _ (by omega)
      simp [h4, this]
  · simp [h4]

end Cert.Nf4

end
-- ==== Proof.KernelIdeal.Lookup.lean ====
/-
  What one store of the kernel writes, element by element: row `p`, lane `l` is the level named by one nibble of the window
  of packed bytes, times that lane's scale of the block, rounded.
-/
module

public import proofs.«01_k».proof.Proof.KernelIdeal.Pieces
public import Idealize.ShloMosaic.Lib.BitcastPair
public import Idealize.ShloMosaic.Lib.BitcastFour
public import Idealize.ShloMosaic.Lib.Pipeline.Value
public import Idealize.ShloMosaic.Lib.ValueIdx
public import Idealize.ShloMosaic.Lib.ValueLayout
public import proofs.«01_k».proof.Proof.Level

@[expose] public section

noncomputable section

namespace Cert.KernelIdeal.Hand

open Cert.KernelIdeal Cert.KernelIdeal.Gen

open Idealize.ShloMosaic Idealize.ShloMosaic.ValueIdx
open Idealize.SL Idealize.SL.Sem
open Cert.Nf4

variable {F : FTy → Type} [FloatOps F]

/-- Row `r` of the table is level `r`. -/
theorem table_apply (r : Fin 16) (l : Fin 128) : (table (F := F)) (ix2 r l) = level (BitVec.ofNat 32 r.val) := by
  have h : (iota .tc S16x128 32 [0] iota_S16x128_d0_w32) (ix2 r l) = BitVec.ofNat 32 r.val := by
    simp [iota]
  unfold table Gen.k0_pay3 Gen.k0_pay1 Gen.k0_pay2
  simp only [select_apply, broadcast_apply, cmpi, h]
  fin_cases r <;> rfl

/-- A bit of the word that names the level: bit `i` of the nibble `hi` of byte row `q`, which is `2p + odd`. -/
theorem codes_getLsbD (hi odd : Nat) (hhi : hi < 2) (hodd : odd < 2) (X : IVec S32x128 8) (p : Fin 16) (l : Fin 128) (q : Fin 32)
    (hq : q.val = 2 * p.val + odd) (i : Nat) (h : i < 32) :
    (codes odd (nibbles hi (bitcast S8x128 32 X bitcasts_S32x128_w8_S8x128_w32)) (ix2 p l)).getLsbD i
      = (decide (i < 4) && (X (ix2 q l)).getLsbD (4 * hi + i)) := by
  have hp := p.isLt
  have key : ∀ (Y : IVec S8x128 32) (i : Nat), i < 16 → (bitcast S16x128 16 Y bitcasts_S8x128_w32_S16x128_w16 (ix2 p l)).getLsbD i
      = (Y (ix2 (⟨p.val / 2, by omega⟩ : Fin 8) l)).getLsbD (16 * (p.val % 2) + i) := by
    intro Y i hi
    rw [bitcast_32_16]
    have hr : (S16x128).row (ix2 p l) = p.val := rfl
    simp only [hr]
    rw [BitVec.getLsbD_extractLsb']
    simp only [hi, decide_true, Bool.true_and]
    congr 2
    funext c
    match c with
    | ⟨0, _⟩ => exact Fin.ext (Shape.Bitcasts.srcIdx_row _ _ _ _ ⟨0, Nat.zero_lt_two⟩ rfl)
    | ⟨1, _⟩ => exact Fin.ext (Shape.Bitcasts.srcIdx_other _ _ _ _ ⟨1, Nat.one_lt_two⟩ (by simp))
  have byte : ∀ j : Nat, j < 8 → (bitcast S8x128 32 X bitcasts_S32x128_w8_S8x128_w32 (ix2 (⟨p.val / 2, by omega⟩ : Fin 8) l)).getLsbD (16 * (p.val % 2) + 8 * odd + j)
      = (X (ix2 q l)).getLsbD j := by
    intro j hj
    rw [bitcast_8_32_getLsbD_ix2 X _ _ l _ (by omega) q (by simp only; omega)]
    congr 1
    omega
  have h15 : (15#32 : BitVec 32).getLsbD i = decide (i < 4) := by interval_cases i <;> rfl
  show (((bitcast S16x128 16 _ bitcasts_S8x128_w32_S16x128_w16 (ix2 p l)).setWidth 32) &&& 15#32).getLsbD i = _
  rw [BitVec.getLsbD_and, h15]
  by_cases h4 : i < 4
  swap
  · simp [h4]
  rw [BitVec.getLsbD_setWidth, key _ i (by omega)]
  have hb := byte (4 * hi + i) (by omega)
  have hs : p.val % 2 < 2 := by omega
  generalize hw : bitcast S8x128 32 X bitcasts_S32x128_w8_S8x128_w32 = v at hb ⊢
  generalize p.val % 2 = s at hb hs ⊢
  generalize (ix2 (⟨p.val / 2, by omega⟩ : Fin 8) l) = z at hb ⊢
  rw [← hb]
  have hz : hi = 0 ∨ hi = 1 := by omega
  have ho : odd = 0 ∨ odd = 1 := by omega
  have hss : s = 0 ∨ s = 1 := by omega
  clear hb byte key
  rcases hz with rfl | rfl <;> rcases ho with rfl | rfl <;> rcases hss with rfl | rfl <;> interval_cases i <;>
    simp [show Nat.beq 0 1 = false from rfl, show Nat.beq 1 1 = true from rfl, nibbles, broadcast, andi, ori, shrui, IntOp.andi, IntOp.ori, IntOp.shrui]

/-- The word that names the level IS the nibble. -/
theorem codes_apply (hi odd : Nat) (hhi : hi < 2) (hodd : odd < 2) (X : IVec S32x128 8) (p : Fin 16) (l : Fin 128) (q : Fin 32)
    (hq : q.val = 2 * p.val + odd) :
    codes odd (nibbles hi (bitcast S8x128 32 X bitcasts_S32x128_w8_S8x128_w32)) (ix2 p l) = nibble hi (X (ix2 q l)) :=
  BitVec.eq_of_getLsbD_eq fun i h => by
    rw [codes_getLsbD hi odd hhi hodd X p l q hq i h, nibble_getLsbD hi _ i h]

theorem byteRow_lt {k : Nat} (h : k < 832) (p : Fin 16) : 32 * (k / 16) + 2 * p.val + k % 2 < 1664 := by omega
theorem lane_lt (k : Nat) (l : Fin 128) : 128 * (k / 4 % 4) + l.val < 512 := by omega

/-- Store `k` at row `p`, lane `l`. -/
theorem payload_apply (w : Vec F S512x1664 .i8) (R : (b n : Nat) → (hb : b < 52) → (hn : n < 4) → Vec F S1x128 .f32) (k : Nat) (h : k < 832)
    (p : Fin 16) (l : Fin 128) :
    payload w R k h (ix2 p l) = FloatOps.truncf .bf16 bitsLt_bf16_f32 (FloatOps.mulf
      (level (nibble (k / 2 % 2) (w (ix2 (⟨128 * (k / 4 % 4) + l.val, lane_lt k l⟩ : Fin 512) (⟨32 * (k / 16) + 2 * p.val + k % 2, byteRow_lt h p⟩ : Fin 1664)))))
      (R (k / 16) (k / 4 % 4) (block_lt h) (group_lt k) (ix2 0 l))) := by
  unfold payload
  rw [shapeCast_self, shapeCast_shapeCast]
  have hX : (extractStridedSlice S32x128 ![32 * (k / 16), 128 * (k / 4 % 4)] (Gen.k0_pay5 w) (slice_fits (block_lt h) (group_lt k)))
      (ix2 (⟨2 * p.val + k % 2, by omega⟩ : Fin 32) l)
      = w (ix2 (⟨128 * (k / 4 % 4) + l.val, lane_lt k l⟩ : Fin 512) (⟨32 * (k / 16) + 2 * p.val + k % 2, byteRow_lt h p⟩ : Fin 1664)) := by
    rw [extractStridedSlice_apply _ _ _ _ (ix2 (⟨32 * (k / 16) + 2 * p.val + k % 2, byteRow_lt h p⟩ : Fin 1664) (⟨128 * (k / 4 % 4) + l.val, lane_lt k l⟩ : Fin 512)) (fun a => match a with
      | ⟨0, _⟩ => by show 32 * (k / 16) + 2 * p.val + k % 2 = 32 * (k / 16) + (2 * p.val + k % 2); omega
      | ⟨1, _⟩ => rfl)]
    exact transpose_apply _ _ _ _ _ (fun b => match b with
      | ⟨0, _⟩ => rfl
      | ⟨1, _⟩ => rfl)
  have hidx := codes_apply (k / 2 % 2) (k % 2) (by omega) (by omega)
    (extractStridedSlice S32x128 ![32 * (k / 16), 128 * (k / 4 % 4)] (Gen.k0_pay5 w) (slice_fits (block_lt h) (group_lt k))) p l
    ⟨2 * p.val + k % 2, by omega⟩ rfl
  rw [hX] at hidx
  have hlt := nibble_lt (k / 2 % 2) (w (ix2 (⟨128 * (k / 4 % 4) + l.val, lane_lt k l⟩ : Fin 512) (⟨32 * (k / 16) + 2 * p.val + k % 2, byteRow_lt h p⟩ : Fin 1664)))
  generalize nibble (k / 2 % 2) (w (ix2 (⟨128 * (k / 4 % 4) + l.val, lane_lt k l⟩ : Fin 512) (⟨32 * (k / 16) + 2 * p.val + k % 2, byteRow_lt h p⟩ : Fin 1664))) = c at hidx hlt ⊢
  generalize codes (k % 2) _ = C at hidx ⊢
  have hg : ∀ V : FVec F S16x128 .bf16, dynamicGather 0 V C (ix2 p l) = V (ix2 (⟨c.toNat, hlt⟩ : Fin 16) l) := fun V => by
    unfold dynamicGather
    refine congrArg V (funext fun a => ?_)
    match a with
    | ⟨0, _⟩ => exact Fin.ext (by show (C (ix2 p l)).toNat % 16 = c.toNat; rw [hidx]; exact Nat.mod_eq_of_lt hlt)
    | ⟨1, _⟩ => rfl
  rw [hg]
  show FloatOps.truncf .bf16 bitsLt_bf16_f32 (FloatOps.mulf (table (ix2 (⟨c.toNat, hlt⟩ : Fin 16) l)) (broadcastTo S16x128 _ broadcasts_S1x128_S16x128 (ix2 (⟨c.toNat, hlt⟩ : Fin 16) l))) = _
  rw [table_apply, broadcastTo_1b_ab_apply, BitVec.ofNat_toNat, BitVec.setWidth_eq]

end Cert.KernelIdeal.Hand

end
-- ==== Proof.KernelIdeal.Weights.lean ====
/-
  What the weight scratch holds once the body's 832 stores are done, and the block that the body leaves in the output's
  window: both in closed form.
-/
module

public import proofs.«01_k».proof.Proof.KernelIdeal.Lookup
import all proofs.«01_k».proof.Proof.KernelIdeal.Run
public import Idealize.ShloMosaic.Lib.WholeRead
public import Idealize.ShloMosaic.Lib.Tactic

@[expose] public section

noncomputable section

namespace Cert.KernelIdeal.Hand

open Cert.KernelIdeal Cert.KernelIdeal.Gen

open Idealize.ShloMosaic Idealize.ShloMosaic.ValueIdx Idealize.ShloMosaic.Tactic Idealize.ShloMosaic.TcCoe
open Idealize.SL Idealize.SL.Sem
open Cert.Nf4

variable {F : FTy → Type} [FloatOps F]

theorem byteOf_lt (r : Fin 3328) : 32 * (r.val / 64) + 2 * (r.val % 16) + r.val / 32 % 2 < 1664 := by omega
theorem blockOf_lt (r : Fin 3328) : r.val / 64 < 52 := by omega

/-- The byte column that row `r` of the weight scratch is taken from; -/
def byteOf (r : Fin 3328) : Fin 1664 := ⟨32 * (r.val / 64) + 2 * (r.val % 16) + r.val / 32 % 2, byteOf_lt r⟩
/-- and the block, whose scale it is multiplied by. -/
def blockOf (r : Fin 3328) : Fin 52 := ⟨r.val / 64, blockOf_lt r⟩

/-- Row `r`, column `j` of the weight scratch: a nibble of row `j` of the packed bytes, looked up and scaled. -/
def weightAt (w : Vec F S512x1664 .i8) (a : Vec F S512x52 .f32) (r : Fin 3328) (j : Fin 512) : F .bf16 :=
  FloatOps.truncf .bf16 bitsLt_bf16_f32 (FloatOps.mulf (level (nibble (r.val / 16 % 2) (w (ix2 j (byteOf r))))) (a (ix2 j (blockOf r))))

/-- The weight scratch as an array. -/
def weights (w : Vec F S512x1664 .i8) (a : Vec F S512x52 .f32) : Vec F S3328x512 .bf16 := fun y => weightAt w a (y 0) (y 1)

/-- The store that writes row `r`, column `j`. -/
def storeOf (r : Fin 3328) (j : Fin 512) : Nat := 16 * (r.val / 64) + 4 * (j.val / 128) + 2 * (r.val / 16 % 2) + r.val / 32 % 2

theorem storeOf_lt (r : Fin 3328) (j : Fin 512) : storeOf r j < 832 := by unfold storeOf; omega

/-- A store's number from its four parts, -/
theorem parts (k : Nat) : 16 * (k / 16) + 4 * (k / 4 % 4) + 2 * (k / 2 % 2) + k % 2 = k := by
  have h4 : k / 16 = k / 4 / 4 := by omega
  have h2 : k / 4 = k / 2 / 2 := by omega
  omega

/-- and the parts from the number. -/
theorem parts_of (b n h o : Nat) (hn : n < 4) (hh : h < 2) (ho : o < 2) :
    (16 * b + 4 * n + 2 * h + o) / 16 = b ∧ (16 * b + 4 * n + 2 * h + o) / 4 % 4 = n ∧ (16 * b + 4 * n + 2 * h + o) / 2 % 2 = h
      ∧ (16 * b + 4 * n + 2 * h + o) % 2 = o := by
  have e2 : (16 * b + 4 * n + 2 * h + o) / 2 = 8 * b + 2 * n + h := by omega
  have e4 : (16 * b + 4 * n + 2 * h + o) / 4 = 4 * b + n := by omega
  have e16 : (16 * b + 4 * n + 2 * h + o) / 16 = b := by omega
  refine ⟨e16, ?_, ?_, ?_⟩
  · rw [e4]; omega
  · rw [e2]; omega
  · omega

/-- Where store `k` writes. -/
theorem piece_emb (w : Vec F S512x1664 .i8) (R : (b n : Nat) → (hb : b < 52) → (hn : n < 4) → Vec F S1x128 .f32) (k : Nat) (h : k < 832)
    (p : Fin 16) (l : Fin 128) (r : Fin 3328) (j : Fin 512) (hr : r.val = 64 * (k / 16) + 16 * (2 * (k % 2) + k / 2 % 2) + p.val)
    (hj : j.val = 128 * (k / 4 % 4) + l.val) : (piece w R k h).1.emb (ix2 p l) = ix2 r j :=
  funext fun a => match a with
  | ⟨0, _⟩ => Fin.ext (by show 64 * (k / 16) + 16 * (2 * (k % 2) + k / 2 % 2) + 1 * p.val = r.val; omega)
  | ⟨1, _⟩ => Fin.ext (by show 128 * (k / 4 % 4) + 1 * l.val = j.val; omega)

/-- Only that store writes there. -/
theorem storeOf_of_mem (w : Vec F S512x1664 .i8) (R : (b n : Nat) → (hb : b < 52) → (hn : n < 4) → Vec F S1x128 .f32) (k : Nat) (h : k < 832)
    (r : Fin 3328) (j : Fin 512) (hm : ix2 r j ∈ (piece w R k h).1.set) : storeOf r j = k := by
  unfold piece at hm
  rw [Rect.mem_set_unit] at hm
  have hm' := hm
  have h0 : 64 * (k / 16) + 16 * (2 * (k % 2) + k / 2 % 2) ≤ r.val ∧ r.val < 64 * (k / 16) + 16 * (2 * (k % 2) + k / 2 % 2) + 16 := hm' 0
  have h1 : 128 * (k / 4 % 4) ≤ j.val ∧ j.val < 128 * (k / 4 % 4) + 128 := hm' 1
  have hb : r.val / 64 = k / 16 := by omega
  have hn : j.val / 128 = k / 4 % 4 := by omega
  have hq : r.val / 16 = 4 * (k / 16) + (2 * (k % 2) + k / 2 % 2) := by omega
  have hh : r.val / 16 % 2 = k / 2 % 2 := by omega
  have ho : r.val / 32 % 2 = k % 2 := by
    have : r.val / 32 = r.val / 16 / 2 := by omega
    omega
  unfold storeOf
  rw [hb, hn, hh, ho]
  exact parts k

/-- After the first `k` stores, every place that one of them writes holds its weight. -/
theorem canon_pieces (w : Vec F S512x1664 .i8) (R : (b n : Nat) → (hb : b < 52) → (hn : n < 4) → Vec F S1x128 .f32) (a : Vec F S512x52 .f32)
    (hR : ∀ b n hb hn (l : Fin 128) (j : Fin 512), j.val = 128 * n + l.val → R b n hb hn (ix2 0 l) = a (ix2 j ⟨b, hb⟩)) :
    ∀ (k : Nat) (hk : k ≤ 832) (r : Fin 3328) (j : Fin 512), storeOf r j < k → View.canon (pieces w R k hk) (ix2 r j) = weightAt w a r j := by
  intro k
  induction k with
  | zero => intro hk r j h; exact absurd h (Nat.not_lt_zero _)
  | succ k ih =>
    intro hk r j h
    by_cases he : storeOf r j = k
    · have hr := r.isLt
      have hj := j.isLt
      have hk' : k < 832 := hk
      obtain ⟨e16, e4, e2, e1⟩ : k / 16 = r.val / 64 ∧ k / 4 % 4 = j.val / 128 ∧ k / 2 % 2 = r.val / 16 % 2 ∧ k % 2 = r.val / 32 % 2 := by
        have := parts_of (r.val / 64) (j.val / 128) (r.val / 16 % 2) (r.val / 32 % 2) (by omega) (by omega) (by omega)
        rw [show 16 * (r.val / 64) + 4 * (j.val / 128) + 2 * (r.val / 16 % 2) + r.val / 32 % 2 = k from he] at this
        exact this
      have hemb := piece_emb w R k hk' ⟨r.val % 16, by omega⟩ ⟨j.val % 128, by omega⟩ r j
        (by
          show r.val = 64 * (k / 16) + 16 * (2 * (k % 2) + k / 2 % 2) + r.val % 16
          rw [e16, e2, e1]
          have h2 : r.val / 32 = r.val / 16 / 2 := by omega
          have h4 : r.val / 64 = r.val / 16 / 4 := by omega
          omega)
        (by show j.val = 128 * (k / 4 % 4) + j.val % 128; rw [e4]; omega)
      rw [← hemb]
      refine (View.canon_cons_emb (piece w R k hk').1 (piece w R k hk').2 (pieces w R k (Nat.le_of_succ_le hk)) _).trans ?_
      refine (payload_apply w R k hk' _ _).trans ?_
      rw [hR _ _ _ _ _ j (by show j.val = 128 * (k / 4 % 4) + j.val % 128; rw [e4]; omega)]
      unfold weightAt
      rw [e2]
      have i1 : (⟨128 * (k / 4 % 4) + j.val % 128, lane_lt k ⟨j.val % 128, by omega⟩⟩ : Fin 512) = j := Fin.ext (by show 128 * (k / 4 % 4) + j.val % 128 = j.val; rw [e4]; omega)
      have i2 : (⟨32 * (k / 16) + 2 * (r.val % 16) + k % 2, byteRow_lt hk' ⟨r.val % 16, by omega⟩⟩ : Fin 1664) = byteOf r := Fin.ext (by
        show 32 * (k / 16) + 2 * (r.val % 16) + k % 2 = 32 * (r.val / 64) + 2 * (r.val % 16) + r.val / 32 % 2; rw [e16, e1])
      have i3 : (⟨k / 16, block_lt hk'⟩ : Fin 52) = blockOf r := Fin.ext e16
      rw [i1, i2, i3]
    · refine (View.canon_cons_of_not_mem (piece w R k hk) (pieces w R k (Nat.le_of_succ_le hk)) fun hm => he (storeOf_of_mem w R k hk r j hm)).trans ?_
      exact ih _ r j (by omega)

/-- The block that the body leaves in the output's window. -/
def bodyOut (x : Vec F S192x3328 .bf16) (w : Vec F S512x1664 .i8) (a : Vec F S512x52 .f32) : Vec F S192x512 .bf16 :=
  Gen.k0_pay1965 (weights w a) x

/-- A load of the whole of a view reads what the view reads. -/
theorem readAt_whole {sp : Space} {e : EltTy} {s : Shape} (M : Memref sig .tc sp s e) (off : Fin s.rank → Nat) (hoff : ∀ a, off a = 0) (inb)
    (f : M.view.ty.Contents (Elt F)) :
    M.view.readAt (Elt F) (Rect.unit (s := s) off s.size inb).toLoadRect f = M.view.read (Elt F) f :=
  funext fun x => congrArg (M.view.read (Elt F) f) (funext fun a => Fin.ext (by
    show off a + 1 * (x a).val = (x a).val
    rw [hoff]; omega))

/-- A store of the whole of a view leaves what it stored. -/
theorem canon_whole {e : EltTy} {s : Shape} (off : Fin s.rank → Nat) (hoff : ∀ a, off a = 0) (inb) (v : s.Idx → Elt F e)
    (L : List (View.Piece (Elt F) s e)) : View.canon (⟨Rect.unit (s := s) off s.size inb, v⟩ :: L) = v :=
  funext fun x => by
    have hx : (Rect.unit (s := s) off s.size inb).emb x = x := funext fun a => Fin.ext (by
      show off a + 1 * (x a).val = (x a).val
      rw [hoff]; omega)
    have h := View.canon_cons_emb (Rect.unit (s := s) off s.size inb) v L x
    rwa [hx] at h

theorem zero2 : ∀ a : Fin 2, (![0, 0] : Fin 2 → Nat) a = 0 := by decide

variable (c : Dev nD) (i : grid0.Coords)
    (M1 : Memref sig .tc .vmem S192x3328 .bf16) (h1 : M1.IsWhole) (M2 : Memref sig .tc .vmem S512x1664 .i8) (h2 : M2.IsWhole)
    (M3 : Memref sig .tc .vmem S512x52 .f32) (h3 : M3.IsWhole) (M4 : Memref sig .tc .vmem S192x512 .bf16) (h4 : M4.IsWhole)
    (M5 : Memref sig .tc .vmem S3328x512 .bf16) (h5 : M5.IsWhole) (M6 : Memref sig .tc .vmem S52x512 .f32) (h6 : M6.IsWhole)
    (f1 : Bf (F := F) c M1) (f2 : Bf (F := F) c M2) (f3 : Bf (F := F) c M3)

/-- The scale scratch, read at block `b`, group `n`: the window of scales, transposed. -/
theorem scale_read (b n : Nat) (hb : b < 52) (hn : n < 4) (l : Fin 128) (j : Fin 512) (hj : j.val = 128 * n + l.val) :
    M6.view.readCov (kernelRun.sl.H6_1 c M3 f3) (Rect.unit (s := S52x512) ![b, 128 * n] S1x128.size (scale_fits hb hn)).toLoadRect (ix2 0 l)
      = M3.view.read (Elt F) f3 (ix2 j ⟨b, hb⟩) := by
  rw [View.readCov_eq_canon']
  unfold kernelRun.sl.H6_1
  rw [canon_whole (s := S52x512) _ zero2]
  have he : (Rect.unit (s := S52x512) ![b, 128 * n] S1x128.size (scale_fits hb hn)).toLoadRect.idx (ix2 0 l) = ix2 (⟨b, hb⟩ : Fin 52) j :=
    funext fun a => Fin.ext (by
      match a with
      | ⟨0, _⟩ => show b + 1 * 0 = b; omega
      | ⟨1, _⟩ => show 128 * n + 1 * l.val = j.val; omega)
  refine (congrArg _ he).trans ?_
  unfold Gen.k0_pay4
  rw [shapeCast_self]
  refine (transpose_apply _ _ _ (ix2 (⟨b, hb⟩ : Fin 52) j) (ix2 j (⟨b, hb⟩ : Fin 52)) (fun a => match a with
      | ⟨0, _⟩ => rfl
      | ⟨1, _⟩ => rfl)).trans ?_
  exact congrFun (readAt_whole M3 _ zero2 _ f3) _

/-- What the run leaves in the output's window: its one store. -/
theorem run_fst (f4 : Bf (F := F) c M4) (f5 : Bf (F := F) c M5) (f6 : Bf (F := F) c M6) :
    ((kernelRun c i M1 h1 M2 h2 M3 h3 M4 h4 M5 h5 M6 h6 f1 f2 f3).1 f4 f5 f6).1
      = M4.view.writes (Elt F) M4.view.junk (kernelRun.sl.H4_1 c M1 M2 M3 M5 M6 f1 f2 f3) := by
  sl_kernel_rfl

/-- The same, read through the window. -/
theorem run_out (f4 : Bf (F := F) c M4) (f5 : Bf (F := F) c M5) (f6 : Bf (F := F) c M6) :
    M4.view.read (Elt F) ((kernelRun c i M1 h1 M2 h2 M3 h3 M4 h4 M5 h5 M6 h6 f1 f2 f3).1 f4 f5 f6).1
      = bodyOut (M1.view.read (Elt F) f1) (M2.view.read (Elt F) f2) (M3.view.read (Elt F) f3) := by
  rw [run_fst, View.read_writes_junk_eq_canon]
  unfold kernelRun.sl.H4_1
  rw [canon_whole (s := S192x512) _ zero2]
  have hw : M5.view.readCov (kernelRun.sl.H5_832 c M2 M3 M6 f2 f3) (Rect.unit (s := S3328x512) ![0, 0] S3328x512.size inb_S3328x512_S3328x512_0_0).toLoadRect
      = weights (M2.view.read (Elt F) f2) (M3.view.read (Elt F) f3) := by
    refine (readAt_whole M5 _ zero2 _ _).trans ?_
    rw [View.read_writes_junk_eq_canon, stores_eq]
    funext y
    obtain ⟨r, j, rfl⟩ : ∃ (r : Fin 3328) (j : Fin 512), y = ix2 r j := ⟨y 0, y 1, eq_ix2 y⟩
    refine (canon_pieces _ _ (M3.view.read (Elt F) f3) (fun b n hb hn l j hj => scale_read c M3 M6 f3 b n hb hn l j hj) 832 (Nat.le_refl _) r j (storeOf_lt r j)).trans ?_
    rw [readAt_whole M2 _ zero2]
    rfl
  unfold kernelRun.sl.r_613 kernelRun.sl.v14213 bodyOut
  rw [hw]
  exact congrArg (Gen.k0_pay1965 _) (readAt_whole M1 _ zero2 _ f1)

end Cert.KernelIdeal.Hand

end
-- ==== Proof.KernelIdeal.Column.lean ====
/-
  Over the extended reals: the block that the body leaves in the output's window, column by column, and that the part of it
  which is written back does not depend on what lies past the arrays' end in the input windows.
-/
module

public import proofs.«01_k».proof.Proof.KernelIdeal.Weights
public import proofs.«01_k».proof.Proof.Gen.KernelIdeal.Frame
public import Idealize.ShloMosaic.Lib.MatmulPlain
public import Idealize.ShloMosaic.Lib.Pipeline.ValueKit

@[expose] public section

noncomputable section

namespace Cert.KernelIdeal.Hand

open Cert.KernelIdeal Cert.KernelIdeal.Gen

open Idealize.ShloMosaic hiding ix2
open Idealize.ShloMosaic.ValueIdx Idealize.ShloMosaic.TcCoe
open Idealize.SL Idealize.SL.Sem
open Idealize.ShloMosaic.Pipeline (Dat Cfg Window)
open Cert.Nf4

/-- Element `(n, j)` of the block: row `n` of the activations against column `j` of the weights. -/
theorem bodyOut_apply (x : Vec Ideal S192x3328 .bf16) (w : Vec Ideal S512x1664 .i8) (a : Vec Ideal S512x52 .f32) (n : Fin 192) (j : Fin 512) :
    bodyOut (F := Ideal) x w a (ix2 n j) = ∑ r : Fin 3328, x (ix2 n r) * weightAt (F := Ideal) w a r j := by
  unfold bodyOut Gen.k0_pay1965
  rw [shapeCast_self]
  refine (Ideal.matmul_plain_apply (M := 192) (K := 3328) (N := 512) (φ₁ := .bf16) (φ₂ := .bf16) none x (weights w a) (constant S192x512 .f32 0x00000000#32) n j).trans ?_
  rw [show (constant (F := Ideal) S192x512 .f32 0x00000000#32) (ix2 n j) = 0 from Ideal.ofBits_zero .f32, zero_add]
  rfl

/-- Row `r`, output feature `J` of the dequantised weights, rows in the kernel's order: a nibble of the packed bytes, looked up,
    times the scale of its block. -/
def fullWeight (W : Vec Ideal S9088x1664 .i8) (A : Vec Ideal S9088x52 .f32) (r : Fin 3328) (J : Fin 9088) : Ideal .bf16 :=
  FloatOps.truncf .bf16 bitsLt_bf16_f32 (FloatOps.mulf (level (F := Ideal) (nibble (r.val / 16 % 2) (W (ix2 J (byteOf r))))) (A (ix2 J (blockOf r))))

/-- The product of the permuted activations and the dequantised weights. -/
def product (x : Vec Ideal S192x3328 .bf16) (W : Vec Ideal S9088x1664 .i8) (A : Vec Ideal S9088x52 .f32) : Vec Ideal S192x9088 .bf16 :=
  fun i => ∑ r : Fin 3328, x (ix2 (i 0) r) * fullWeight W A r (i 1)

/-- Offset zero. -/
theorem zeroth {k s v : ℕ} (h : k = 0) : k * s + v = v := by rw [h, Nat.zero_mul, Nat.zero_add]

variable (m : (ℓ : Loc nD τ sig) → Buf (Elt Ideal) ℓ)

/-- The first window is the whole array of activations. -/
theorem iblk0_apply (c : Dev nD) (t : Fin cfg0.N) (n : Fin 192) (r : Fin 3328) : iblk m c 0 t (ix2 n r) = V m c main_v2 (ix2 n r) := by
  show V m c main_v2 ((win0_0.blk t).view.emb (ix2 n r)) = _
  refine congrArg (V m c main_v2) (funext fun a => Fin.ext ?_)
  match a with
  | ⟨0, _⟩ => blk_simp; exact zeroth (show win0_0.index t 0 = 0 from rfl)
  | ⟨1, _⟩ => blk_simp; exact zeroth (show win0_0.index t 1 = 0 from rfl)

/-- Row `j` of the packed weights' block, in so far as it lies in the array. -/
theorem fill1_apply (c : Dev nD) (t : Fin cfg0.N) (d : win0_1.block.Idx → Elt Ideal .i8) (j : Fin 512) (q : Fin 1664)
    (hj : j.val < (win0_3.xblock (grid0.coords t)).size 1) (hJ : win0_3.index t 1 * 512 + j.val < 9088) :
    win0_1.fill (grid0.coords t) d (iblk m c 1 t) (ix2 j q) = V m c main_arg1 (ix2 ⟨win0_3.index t 1 * 512 + j.val, hJ⟩ q) := by
  let y : (win0_1.xblock (grid0.coords t)).Idx := fun a => match a with
    | ⟨0, _⟩ => ⟨j.val, hj⟩
    | ⟨1, _⟩ => ⟨q.val, q.isLt⟩
  have e : win0_1.xinj (grid0.coords t) y = ix2 j q := funext fun a => match a with
    | ⟨0, _⟩ => rfl
    | ⟨1, _⟩ => rfl
  rw [← e, Window.fill_xinj]
  show V m c main_arg1 ((win0_1.blk t).view.emb y) = _
  refine congrArg (V m c main_arg1) (funext fun a => Fin.ext ?_)
  match a with
  | ⟨0, _⟩ => blk_simp; rfl
  | ⟨1, _⟩ => blk_simp; exact zeroth (show win0_1.index t 1 = 0 from rfl)

/-- Row `j` of the scales' block, in so far as it lies in the array. -/
theorem fill2_apply (c : Dev nD) (t : Fin cfg0.N) (d : win0_2.block.Idx → Elt Ideal .f32) (j : Fin 512) (q : Fin 52)
    (hj : j.val < (win0_3.xblock (grid0.coords t)).size 1) (hJ : win0_3.index t 1 * 512 + j.val < 9088) :
    win0_2.fill (grid0.coords t) d (iblk m c 2 t) (ix2 j q) = V m c main_arg2 (ix2 ⟨win0_3.index t 1 * 512 + j.val, hJ⟩ q) := by
  let y : (win0_2.xblock (grid0.coords t)).Idx := fun a => match a with
    | ⟨0, _⟩ => ⟨j.val, hj⟩
    | ⟨1, _⟩ => ⟨q.val, q.isLt⟩
  have e : win0_2.xinj (grid0.coords t) y = ix2 j q := funext fun a => match a with
    | ⟨0, _⟩ => rfl
    | ⟨1, _⟩ => rfl
  rw [← e, Window.fill_xinj]
  show V m c main_arg2 ((win0_2.blk t).view.emb y) = _
  refine congrArg (V m c main_arg2) (funext fun a => Fin.ext ?_)
  match a with
  | ⟨0, _⟩ => blk_simp; rfl
  | ⟨1, _⟩ => blk_simp; exact zeroth (show win0_2.index t 1 = 0 from rfl)

/-- What the body leaves at a place that is written back is the product there, whatever the input windows hold past the
    arrays' end. -/
theorem block_out (c : Dev nD) (t : Fin cfg0.N) (d1 : win0_1.block.Idx → Elt Ideal .i8) (d2 : win0_2.block.Idx → Elt Ideal .f32)
    (y : (win0_3.xblock (grid0.coords t)).Idx) :
    bodyOut (F := Ideal) (iblk m c 0 t) (win0_1.fill (grid0.coords t) d1 (iblk m c 1 t)) (win0_2.fill (grid0.coords t) d2 (iblk m c 2 t))
        (win0_3.xinj (grid0.coords t) y)
      = product (V m c main_v2) (V m c main_arg1) (V m c main_arg2) ((win0_3.blk t).view.emb y) := by
  have hn : (y 0).val < 192 := (y 0).isLt
  have hj : (y 1).val < 512 := (win0_3.xinj (grid0.coords t) y 1).isLt
  have hJ : win0_3.index t 1 * 512 + (y 1).val < 9088 := by
    have h := ((win0_3.blk t).view.emb y 1).isLt
    blk_simp at h
    exact h
  have e1 : win0_3.xinj (grid0.coords t) y = ix2 (⟨(y 0).val, hn⟩ : Fin 192) (⟨(y 1).val, hj⟩ : Fin 512) := funext fun a => match a with
    | ⟨0, _⟩ => rfl
    | ⟨1, _⟩ => rfl
  have e2 : (win0_3.blk t).view.emb y = ix2 (⟨(y 0).val, hn⟩ : Fin 192) (⟨win0_3.index t 1 * 512 + (y 1).val, hJ⟩ : Fin 9088) := funext fun a => Fin.ext (by
    match a with
    | ⟨0, _⟩ => blk_simp; exact zeroth (show win0_3.index t 0 = 0 from rfl)
    | ⟨1, _⟩ => blk_simp; rfl)
  rw [e1, e2, bodyOut_apply]
  unfold product
  refine Finset.sum_congr rfl fun r _ => ?_
  unfold weightAt fullWeight
  rw [iblk0_apply, fill1_apply m c t d1 ⟨(y 1).val, hj⟩ (byteOf r) (y 1).isLt hJ, fill2_apply m c t d2 ⟨(y 1).val, hj⟩ (blockOf r) (y 1).isLt hJ]

end Cert.KernelIdeal.Hand

end
-- ==== Proof.KernelIdeal.Exact.lean ====
/-
  The run of the kernel over the extended reals, its result named: the body's obligation with the output window exact, and
  the run of `main` through the pipeline and the reshape after it.
-/
module

public import proofs.«01_k».proof.Proof.KernelIdeal.Column
public import proofs.«01_k».proof.Proof.KernelIdeal.Frame

@[expose] public section

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf kernel pipe)

section Body

variable {F : FTy → Type} [FloatOps F]

local notation "𝕄" => MT nD τ sig Unit (Elt F) ℕ (UR sig nD τ) ℕ

/-- The body between buffers owned through their memrefs: the inputs come back as they were, the output at the product of
    the activations and the dequantised weights, the scratch buffers at something. -/
theorem sound_exact (c : Dev nD) (E : Set ℕ) (i : grid0.Coords)
    (M1 : Memref sig .tc .vmem S192x3328 .bf16) (h1 : M1.IsWhole) (M2 : Memref sig .tc .vmem S512x1664 .i8) (h2 : M2.IsWhole)
    (M3 : Memref sig .tc .vmem S512x52 .f32) (h3 : M3.IsWhole) (M4 : Memref sig .tc .vmem S192x512 .bf16) (h4 : M4.IsWhole)
    (M5 : Memref sig .tc .vmem S3328x512 .bf16) (h5 : M5.IsWhole) (M6 : Memref sig .tc .vmem S52x512 .f32) (h6 : M6.IsWhole)
    (X1 : S192x3328.Idx → Elt F .bf16) (X2 : S512x1664.Idx → Elt F .i8) (X3 : S512x52.Idx → Elt F .f32) (K : PUnit → sProp 𝕄) :
    iprop(owns (c : Thread nD τ) M1 fullShare X1 ∗ owns (c : Thread nD τ) M2 fullShare X2 ∗ owns (c : Thread nD τ) M3 fullShare X3
        ∗ (∃ X, owns (c : Thread nD τ) M4 fullShare X) ∗ (∃ f, pt c M5 f) ∗ (∃ f, pt c M6 f)
        ∗ (iprop(owns (c : Thread nD τ) M1 fullShare X1 ∗ owns (c : Thread nD τ) M2 fullShare X2 ∗ owns (c : Thread nD τ) M3 fullShare X3
            ∗ owns (c : Thread nD τ) M4 fullShare (bodyOut X1 X2 X3) ∗ (∃ f, pt c M5 f) ∗ (∃ f, pt c M6 f)) -∗ K ⟨⟩))
      ⊢ wp frame (wpE (defs₀ (F := F)) Variants.none c none) E (cc0_nf4_linear i M1 h1 M2 h2 M3 h3 M4 h4 M5 h5 M6 h6) K := by
  rw [owns_pt c M1 h1, owns_pt c M2 h2, owns_pt c M3 h3]
  simp only [owns_pt c M4 h4]
  iintro ⟨⟨%f1, %hf1, H1⟩, ⟨%f2, %hf2, H2⟩, ⟨%f3, %hf3, H3⟩, ⟨%X4, %f4, -, H4⟩, ⟨%f5, H5⟩, ⟨%f6, H6⟩, Hk⟩
  iapply ((kernelRun c i M1 h1 M2 h2 M3 h3 M4 h4 M5 h5 M6 h6 f1 f2 f3).2 f4 f5 f6 E K)
  isplitl [H1]; · iexact H1
  isplitl [H2]; · iexact H2
  isplitl [H3]; · iexact H3
  isplitl [H4]; · iexact H4
  isplitl [H5]; · iexact H5
  isplitl [H6]; · iexact H6
  have hW := run_out c i M1 h1 M2 h2 M3 h3 M4 h4 M5 h5 M6 h6 f1 f2 f3 f4 f5 f6
  rw [hf1, hf2, hf3] at hW
  generalize (kernelRun c i M1 h1 M2 h2 M3 h3 M4 h4 M5 h5 M6 h6 f1 f2 f3).1 f4 f5 f6 = W at hW ⊢
  iintro ⟨H1, H2, H3, H4, H5, H6⟩
  iapply Hk
  isplitl [H1]; · iexists f1; isplitr; · ipureintro; exact hf1
                  iexact H1
  isplitl [H2]; · iexists f2; isplitr; · ipureintro; exact hf2
                  iexact H2
  isplitl [H3]; · iexists f3; isplitr; · ipureintro; exact hf3
                  iexact H3
  isplitl [H4]; · iexists W.1; isplitr; · ipureintro; exact hW
                  iexact H4
  isplitl [H5]; · iexists W.2.1; iexact H5
  iexists W.2.2; iexact H6

end Body

variable (m : (ℓ : Loc nD τ sig) → Buf (Elt Ideal) ℓ) (ρ : Dev nD → PrngReg)

/-- The result before the last reshape. -/
def result (c : Dev nD) : Vec Ideal S192x9088 .bf16 := product (V m c main_v2) (V m c main_arg1) (V m c main_arg2)

/-- The proof data: the arrays as the region finds them; after the body the inputs' staging buffers hold their blocks, the
    output's the result's block, filled out past the arrays' end with a word nothing reads. -/
def exact (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Classical.arbitrary _) (iblk m c 1 t)
    | ⟨2, _⟩ => win0_2.fill (grid0.coords t) (fun _ => Classical.arbitrary _) (iblk m c 2 t)
    | ⟨3, _⟩ => win0_3.fill (grid0.coords t) (fun _ => Classical.arbitrary _) (fun y => result m c ((win0_3.blk t).view.emb y))
  Φ _ := Pipeline.ΦA spec0 c
  q _ := fullShare
  owed _ := 0

/-- What the body finds in the first window: its block. -/
theorem exact_before_0 (c : Dev nD) (t : Fin cfg0.N) (d) : (exact m 0 c).before 0 t d = iblk m c 0 t :=
  before0_0_of m (exact m 0 c) rfl (fun _ => rfl) t d
/-- What the body finds in the second: its block, and past the array's end anything. -/
theorem exact_before_1 (c : Dev nD) (t : Fin cfg0.N) (d) :
    (exact m 0 c).before 1 t d = win0_1.fill (grid0.coords t) d (iblk m c 1 t) := by
  unfold Dat.before; rw [if_pos (fetch0_1 t)]; rfl
/-- What the body finds in the third, likewise. -/
theorem exact_before_2 (c : Dev nD) (t : Fin cfg0.N) (d) :
    (exact m 0 c).before 2 t d = win0_2.fill (grid0.coords t) d (iblk m c 2 t) := by
  unfold Dat.before; rw [if_pos (fetch0_2 t)]; rfl

set_option maxHeartbeats 2000000 in
/-- The body obligation, the output window named: what is written back of it is the product's block. -/
theorem exact_obligation (c : Dev nD) : BodyObligationLoose (exact m 0 c) (defs₀ (F := Ideal)) Variants.none () Set.univ := fun t => by
  rw [bigSep_W0, bigSep_W0]
  rw [show (exact m 0 c).Φ t.succ = Pipeline.ΦA spec0 c from rfl, show (exact m 0 c).Φ t.castSucc = Pipeline.ΦA spec0 c from rfl,
    show (exact m 0 c).owesAt () t.succ = (exact m 0 c).owesAt () t.castSucc from rfl]
  unfold Pipeline.ΦA; rw [scopedRest0_eq]
  iintro ⟨⟨⟨H5, H6⟩, Hg⟩, Ho, ⟨%d0, H0⟩, ⟨%d1, H1⟩, ⟨%d2, H2⟩, ⟨%d3, H3⟩⟩
  rw [exact_before_0 m c t d0, exact_before_1 m c t d1, exact_before_2 m c t d2]
  iapply (sound_exact (F := Ideal) c Set.univ (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (Memref.whole cc0_scratch0) (Memref.isWhole_whole _) (Memref.whole cc0_scratch1) (Memref.isWhole_whole _)
    (iblk m c 0 t) (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexists _; iexact H3
  isplitl [H5]; · iexact H5
  isplitl [H6]; · iexact H6
  iintro ⟨H0, H1, H2, H3, H5, H6⟩
  isplitl [H5 H6 Hg]
  · isplitr [Hg]
    · isplitl [H5]; · iexact H5
      iexact H6
    · iexact Hg
  isplitl [Ho]; · iexact Ho
  have hx : win0_1.cut (grid0.coords t) ((exact m 0 c).after 1 t) = iblk m c 1 t := win0_1.cut_fill _ _ _
  have hy : win0_2.cut (grid0.coords t) ((exact m 0 c).after 2 t) = iblk m c 2 t := win0_2.cut_fill _ _ _
  isplitl [H0]; · iexact H0
  isplitl [H1]
  · iexists d1
    change _ ⊢ owns (c : Thread nD τ) (win0_1.stage (cfg0.slots t 1)) fullShare (win0_1.fill (grid0.coords t) d1 (win0_1.cut (grid0.coords t) ((exact m 0 c).after 1 t)))
    rw [hx]; try iexact H1
  isplitl [H2]
  · iexists d2
    change _ ⊢ owns (c : Thread nD τ) (win0_2.stage (cfg0.slots t 2)) fullShare (win0_2.fill (grid0.coords t) d2 (win0_2.cut (grid0.coords t) ((exact m 0 c).after 2 t)))
    rw [hy]; try iexact H2
  have hz : win0_3.cut (grid0.coords t) ((exact m 0 c).after 3 t)
      = win0_3.cut (grid0.coords t) (bodyOut (iblk m c 0 t) (win0_1.fill (grid0.coords t) d1 (iblk m c 1 t)) (win0_2.fill (grid0.coords t) d2 (iblk m c 2 t))) :=
    (win0_3.cut_fill _ _ _).trans (funext fun y => (block_out m c t d1 d2 y).symm)
  iexists _
  change _ ⊢ owns (c : Thread nD τ) (win0_3.stage (cfg0.slots t 3)) fullShare (win0_3.fill (grid0.coords t) _ (win0_3.cut (grid0.coords t) ((exact m 0 c).after 3 t)))
  rw [hz, win0_3.fill_cut]; try iexact H3

set_option backward.isDefEq.respectTransparency.types false in
/-- The run: every array ends at what the pipeline writes into it, every other buffer at what the lines after it leave. -/
theorem exact_run : θ_run defs (onTc (τ := τ) (main (F := Ideal))) (s₀ m ρ)
    (Pipeline.FramePost cfgs (exact m) 0 (Pipeline.afterTail₀ cfgs (exact m) 0 (V0 m) [hostOps1])) :=
  Pipeline.θ_run_frame_around cfgs (exact m) 0 launch0 defs₀ Variants.none m ρ main
    (hbody := exact_obligation m) (hshare := fun c => (exact m 0 c).share_full fun _ => rfl) (howed := fun _ _ => rfl)
    (V₀ := V0 m) (opss := [hostOps1]) (hsub := sfx_sub) (hfresh := sfx_fresh) (hkeep := sfx_keeps)
    (hmain := hmain m Variants.none) (hA := fun _ _ => rfl) (hΦ := fun _ _ => rfl)

/-- Every block of the output is written back: the output array ends at the result. -/
theorem arr_result (c : Dev nD) : (exact m 0 c).arrAt 3 cfg0.N = result m c := by
  refine (exact m 0 c).arrAt_eq_of_covers 3 _ (by decide +kernel) fun t _ y => ?_
  exact congrFun (win0_3.cut_fill (grid0.coords t) (fun _ => Classical.arbitrary _) (fun y => result m c ((win0_3.blk t).view.emb y))) y

end Cert.KernelIdeal.Hand

end
-- ==== Proof.KernelIdeal.Result.lean ====
/-
  The kernel's result over the extended reals, as a function of its arguments: the host lines around the region read.
-/
module

public import proofs.«01_k».proof.Proof.KernelIdeal.Exact
public import Idealize.ShloMosaic.Lib.StableHlo.Run

@[expose] public section

noncomputable section

namespace Cert.KernelIdeal.Hand

open Cert.KernelIdeal Cert.KernelIdeal.Gen

open Idealize.ShloMosaic hiding ix2 ix3 ix4
open Idealize.ShloMosaic.ValueIdx Idealize.ShloMosaic.TcCoe Idealize.ShloMosaic.Tactic Idealize.SL.Sem

variable (m : (ℓ : Loc nD τ sig) → Buf (Elt Ideal) ℓ) (ρ : Dev nD → PrngReg)

/-- The activations' permutation. -/
def permuted (x : Vec Ideal S192x1x3328 .bf16) : Vec Ideal S192x3328 .bf16 :=
  shapeCast S192x3328 (transpose S192x52x4x16 [0, 1, 3, 2] (shapeCast S192x52x16x4 x shapeCasts_S192x1x3328_S192x52x16x4)
    transposes_S192x52x16x4_S192x52x4x16_0_1_3_2) shapeCasts_S192x52x4x16_S192x3328

/-- The region finds the activations permuted. -/
theorem V_main_v2 (c : Dev nD) : V m c main_v2 = permuted (m ((c : Thread nD τ).loc main_arg0)) := by
  show StableHlo.after (List.flatten [hostOps0]) (fun b => m (c, b)) (Proc.devRef .tc main_v2) = _
  rw [List.flatten_cons, List.flatten_nil, List.append_nil]
  unfold hostOps0
  after_results
  rfl

/-- The result buffer after the last line. -/
theorem W_main_v4 (c : Dev nD) : Pipeline.afterTail₀ cfgs (exact m) 0 (V0 m) [hostOps1] c main_v4
    = shapeCast S192x1x9088 (result m c) shapeCasts_S192x9088_S192x1x9088 := by
  unfold Pipeline.afterTail₀
  rw [List.flatten_cons, List.flatten_nil, List.append_nil]
  unfold hostOps1
  after_results
  refine congrArg (fun x => shapeCast S192x1x9088 x shapeCasts_S192x9088_S192x1x9088) ?_
  exact (Pipeline.withArrays_arr spec0 launch0.win.arr_inj c _ _ 3).trans (arr_result m c)

/-- The column of the activations that row `r` of the weights meets: the order within a block of 64 is a transposition of
    16 groups of 4. -/
def origin (r : Fin 3328) : Fin 3328 := ⟨64 * (r.val / 64) + 4 * (r.val % 16) + r.val / 16 % 4, by omega⟩

/-- The permuted activations, read at a point. -/
theorem permuted_apply (x : Vec Ideal S192x1x3328 .bf16) (n : Fin 192) (r : Fin 3328) :
    permuted x (ix2 n r) = x (ix3 n 0 (origin r)) := by
  unfold permuted
  have h1 : r.val / 64 < 52 := by omega
  refine (shapeCast_apply _ _ _ (ix4 n (⟨r.val / 64, h1⟩ : Fin 52) (⟨r.val / 16 % 4, by omega⟩ : Fin 4) (⟨r.val % 16, by omega⟩ : Fin 16)) ?_).trans ?_
  · refine (Shape.rowMajor_val_four _).trans (Eq.trans ?_ (Shape.rowMajor_val_two _).symm)
    show ((n.val * 52 + r.val / 64) * 4 + r.val / 16 % 4) * 16 + r.val % 16 = n.val * 3328 + r.val
    omega
  refine (transpose_apply _ _ _ _ (ix4 n (⟨r.val / 64, h1⟩ : Fin 52) (⟨r.val % 16, by omega⟩ : Fin 16) (⟨r.val / 16 % 4, by omega⟩ : Fin 4)) ?_).trans ?_
  · intro b
    match b with
    | ⟨0, _⟩ => rfl
    | ⟨1, _⟩ => rfl
    | ⟨2, _⟩ => rfl
    | ⟨3, _⟩ => rfl
  refine shapeCast_apply _ _ _ (ix3 n 0 (origin r)) ?_
  refine (Shape.rowMajor_val_three _).trans (Eq.trans ?_ (Shape.rowMajor_val_four _).symm)
  show (n.val * 1 + 0) * 3328 + (64 * (r.val / 64) + 4 * (r.val % 16) + r.val / 16 % 4) = ((n.val * 52 + r.val / 64) * 16 + r.val % 16) * 4 + r.val / 16 % 4
  omega

/-- What the kernel computes. -/
def computed (x : Vec Ideal S192x1x3328 .bf16) (W : Vec Ideal S9088x1664 .i8) (A : Vec Ideal S9088x52 .f32) : Vec Ideal S192x1x9088 .bf16 :=
  shapeCast S192x1x9088 (product (permuted x) W A) shapeCasts_S192x9088_S192x1x9088

/-- The kernel runs, ends with its result buffer at what it computes, and leaves its arguments as it found them. -/
theorem value_run : θ_run defs (onTc (τ := τ) (main (F := Ideal))) ⟨m, fun _ => 0, ρ⟩ (fun r => ∀ c : Dev nD,
      r.2.mem ((c.tc : Thread nD τ).loc main_v4)
        = computed (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      (((h c).2 main_v4 (Pipeline.mem_restRefs_of main_v4 (by decide) (by decide))).trans (W_main_v4 m c)).trans (by
        unfold computed result
        rw [V_main_v2, V_main_arg1, V_main_arg2]),
      ((h c).2 main_arg0 (Pipeline.mem_restRefs_of main_arg0 (by decide) (by decide))).trans (W_main_arg0 m (exact m) c),
      ((h c).1 1).trans (((exact m 0 c).arrAt_in 1 rfl _).trans (V_main_arg1 m c)),
      ((h c).1 2).trans (((exact m 0 c).arrAt_in 2 rfl _).trans (V_main_arg2 m c))⟩) (exact_run m ρ)

end Cert.KernelIdeal.Hand

end
-- ==== Proof.ReferenceIdeal.Value.lean ====
/-
  The reference's result over the extended reals, read at a point: two sums over the packed bytes, the low nibbles against the
  even columns of the activations and the high nibbles against the odd ones.
-/
module

public import proofs.«01_k».proof.Proof.Gen.ReferenceIdeal
public import proofs.«01_k».proof.Proof.Gen.ReferenceIdeal.Run
public import proofs.«01_k».proof.Proof.Gen.ReferenceIdeal.Read
public import proofs.«01_k».proof.Proof.Level
public import Idealize.ShloMosaic.Lib.Claim

@[expose] public section

noncomputable section

namespace Cert.ReferenceIdeal.Hand

open Cert.ReferenceIdeal Cert.ReferenceIdeal.Gen Cert.ReferenceIdeal.Read

open Idealize.ShloMosaic
open Idealize.ShloMosaic.ValueIdx Idealize.ShloMosaic.TcCoe Idealize.SL.Sem Idealize.ShloMosaic.StableHlo
open Cert.Nf4

section Table

variable {F : FTy → Type} [FloatOps F]

/-- Bit `b` of a code word, as the reference tests it. -/
def bit (w b : BitVec 32) : BitVec 1 := IntOp.cmpi .ne (IntOp.andi (IntOp.shrsi .host w b) 1#32) 0#32

/-- The reference's table: a binary tree of selections on the bits of the code word. -/
def pick (w : BitVec 32) : F .f32 :=
  Scalar.select (bit w 3#32)
    (Scalar.select (bit w 2#32)
      (Scalar.select (bit w 1#32)
        (Scalar.select (bit w 0#32)
          (FloatOps.ofBits .f32 0x3F800000#32)
          (FloatOps.ofBits .f32 0x3F3913B3#32))
        (Scalar.select (bit w 0#32)
          (FloatOps.ofBits .f32 0x3F1007AB#32)
          (FloatOps.ofBits .f32 0x3EE1A4B8#32)))
      (Scalar.select (bit w 1#32)
        (Scalar.select (bit w 0#32)
          (FloatOps.ofBits .f32 0x3EAD033A#32)
          (FloatOps.ofBits .f32 0x3E7C04DD#32))
        (Scalar.select (bit w 0#32)
          (FloatOps.ofBits .f32 0x3E24CAE3#32)
          (FloatOps.ofBits .f32 0x3DA2FAFF#32))))
    (Scalar.select (bit w 2#32)
      (Scalar.select (bit w 1#32)
        (Scalar.select (bit w 0#32)
          (FloatOps.ofBits .f32 0x00000000#32)
          (FloatOps.ofBits .f32 0xBDBA7871#32))
        (Scalar.select (bit w 0#32)
          (FloatOps.ofBits .f32 0xBE3D353F#32)
          (FloatOps.ofBits .f32 0xBE91A24D#32)))
      (Scalar.select (bit w 1#32)
        (Scalar.select (bit w 0#32)
          (FloatOps.ofBits .f32 0xBECA32A0#32)
          (FloatOps.ofBits .f32 0xBF066B30#32))
        (Scalar.select (bit w 0#32)
          (FloatOps.ofBits .f32 0xBF3239B1#32)
          (FloatOps.ofBits .f32 0xBF800000#32))))

/-- On the sixteen code words the tree is the table. -/
theorem pick_eq (w : BitVec 32) (h : w.toNat < 16) : pick (F := F) w = level w := by
  obtain ⟨k, hk, rfl⟩ : ∃ k : ℕ, k < 16 ∧ w = BitVec.ofNat 32 k := ⟨w.toNat, h, by simp⟩
  interval_cases k <;> rfl

/-- The low nibble as the reference takes it. -/
theorem low_eq (x : BitVec 8) : IntOp.andi (x.setWidth 32) 15#32 = nibble 0 x := by
  revert x; decide +kernel

/-- The high nibble as the reference takes it: the byte carries no sign past its own width. -/
theorem high_eq (x : BitVec 8) : IntOp.shrsi .host (x.setWidth 32) 4#32 = nibble 1 x := by
  revert x; decide +kernel

/-- The low half of the dequantised codes. -/
theorem low_level (x1 : (⟨S9088x1664, .i8⟩ : BufTy).Contents (Elt F)) (i : S9088x1664.Idx) :
    val_main_v53 (F := F) x1 i = level (nibble 0 (x1 i)) := by
  have hw : val_main_v10 (F := F) x1 i = nibble 0 (x1 i) := by
    rw [val_main_v10_apply, val_main_v8_apply, val_main_v9_apply, val_main_c_apply]; exact low_eq _
  rw [← pick_eq _ (nibble_lt 0 _), ← hw]
  simp only [val_main_v53_apply, val_main_v44_apply, val_main_v33_apply, val_main_v18_apply, val_main_call0_v1_apply, val_main_cst_3_apply, val_main_call0_v0_apply, val_main_cst_apply,
    val_main_v17_apply, val_main_v16_apply, val_main_v15_apply, val_main_c_2_apply, val_main_v14_apply, val_main_v13_apply, val_main_c_1_apply, val_main_v12_apply,
    val_main_v11_apply, val_main_c_0_apply, val_main_v19_apply, val_main_call1_v1_apply, val_main_cst_5_apply, val_main_call1_v0_apply, val_main_cst_4_apply,
    val_main_v32_apply, val_main_v31_apply, val_main_v30_apply, val_main_c_20_apply, val_main_v29_apply, val_main_v28_apply, val_main_c_19_apply, val_main_v27_apply,
    val_main_v26_apply, val_main_c_18_apply, val_main_v34_apply, val_main_v20_apply, val_main_call2_v1_apply, val_main_cst_7_apply, val_main_call2_v0_apply,
    val_main_cst_6_apply, val_main_v21_apply, val_main_call3_v1_apply, val_main_cst_9_apply, val_main_call3_v0_apply, val_main_cst_8_apply, val_main_v43_apply,
    val_main_v42_apply, val_main_v41_apply, val_main_c_23_apply, val_main_v40_apply, val_main_v39_apply, val_main_c_22_apply, val_main_v38_apply, val_main_v37_apply,
    val_main_c_21_apply, val_main_v45_apply, val_main_v35_apply, val_main_v22_apply, val_main_call4_v1_apply, val_main_cst_11_apply, val_main_call4_v0_apply,
    val_main_cst_10_apply, val_main_v23_apply, val_main_call5_v1_apply, val_main_cst_13_apply, val_main_call5_v0_apply, val_main_cst_12_apply, val_main_v36_apply,
    val_main_v24_apply, val_main_call6_v1_apply, val_main_cst_15_apply, val_main_call6_v0_apply, val_main_cst_14_apply, val_main_v25_apply, val_main_call7_v1_apply,
    val_main_cst_17_apply, val_main_call7_v0_apply, val_main_cst_16_apply, val_main_v52_apply, val_main_v51_apply, val_main_v50_apply, val_main_c_26_apply, val_main_v49_apply,
    val_main_v48_apply, val_main_c_25_apply, val_main_v47_apply, val_main_v46_apply, val_main_c_24_apply]
  rfl

/-- The high half of the dequantised codes. -/
theorem high_level (x1 : (⟨S9088x1664, .i8⟩ : BufTy).Contents (Elt F)) (i : S9088x1664.Idx) :
    val_main_v100 (F := F) x1 i = level (nibble 1 (x1 i)) := by
  have hw : val_main_v57 (F := F) x1 i = nibble 1 (x1 i) := by
    rw [val_main_v57_apply, val_main_v8_apply, val_main_v56_apply, val_main_c_27_apply]; exact high_eq _
  rw [← pick_eq _ (nibble_lt 1 _), ← hw]
  simp only [val_main_v100_apply, val_main_v91_apply, val_main_v80_apply, val_main_v65_apply, val_main_call15_v1_apply, val_main_cst_32_apply, val_main_call15_v0_apply,
    val_main_cst_31_apply, val_main_v64_apply, val_main_v63_apply, val_main_v62_apply, val_main_c_30_apply, val_main_v61_apply, val_main_v60_apply, val_main_c_29_apply,
    val_main_v59_apply, val_main_v58_apply, val_main_c_28_apply, val_main_v66_apply, val_main_call16_v1_apply, val_main_cst_34_apply, val_main_call16_v0_apply,
    val_main_cst_33_apply, val_main_v79_apply, val_main_v78_apply, val_main_v77_apply, val_main_c_49_apply, val_main_v76_apply, val_main_v75_apply, val_main_c_48_apply,
    val_main_v74_apply, val_main_v73_apply, val_main_c_47_apply, val_main_v81_apply, val_main_v67_apply, val_main_call17_v1_apply, val_main_cst_36_apply,
    val_main_call17_v0_apply, val_main_cst_35_apply, val_main_v68_apply, val_main_call18_v1_apply, val_main_cst_38_apply, val_main_call18_v0_apply, val_main_cst_37_apply,
    val_main_v90_apply, val_main_v89_apply, val_main_v88_apply, val_main_c_52_apply, val_main_v87_apply, val_main_v86_apply, val_main_c_51_apply, val_main_v85_apply,
    val_main_v84_apply, val_main_c_50_apply, val_main_v92_apply, val_main_v82_apply, val_main_v69_apply, val_main_call19_v1_apply, val_main_cst_40_apply,
    val_main_call19_v0_apply, val_main_cst_39_apply, val_main_v70_apply, val_main_call20_v1_apply, val_main_cst_42_apply, val_main_call20_v0_apply, val_main_cst_41_apply,
    val_main_v83_apply, val_main_v71_apply, val_main_call21_v1_apply, val_main_cst_44_apply, val_main_call21_v0_apply, val_main_cst_43_apply, val_main_v72_apply,
    val_main_call22_v1_apply, val_main_cst_46_apply, val_main_call22_v0_apply, val_main_cst_45_apply, val_main_v99_apply, val_main_v98_apply, val_main_v97_apply,
    val_main_c_55_apply, val_main_v96_apply, val_main_v95_apply, val_main_c_54_apply, val_main_v94_apply, val_main_v93_apply, val_main_c_53_apply]
  rfl

end Table

/-- The dequantised weight of nibble `h` of packed byte `k`, output feature `J`. -/
def weight (W : Vec Ideal S9088x1664 .i8) (A : Vec Ideal S9088x52 .f32) (h : ℕ) (k : Fin 1664) (J : Fin 9088) : Ideal .bf16 :=
  FloatOps.truncf .bf16 bitsLt_bf16_f32 (FloatOps.mulf (level (F := Ideal) (nibble h (W (ix2 J k)))) (A (ix2 J ⟨k.val / 32, by omega⟩)))

/-- The scales repeated over their blocks. -/
theorem scale_apply (A : Vec Ideal S9088x52 .f32) (J : Fin 9088) (k : Fin 1664) :
    val_main_v7 (F := Ideal) A (ix2 J k) = A (ix2 J ⟨k.val / 32, by omega⟩) := by
  have hk : k.val < 1664 := k.isLt
  rw [val_main_v7_apply, val_main_v6_apply]
  refine congrArg A (funext fun a => Fin.ext ?_)
  match a with
  | ⟨0, _⟩ => show _ = J.val; dsimp only [idx_main_v6, idx_main_v7, ix2]; omega
  | ⟨1, _⟩ => show _ = k.val / 32; dsimp only [idx_main_v6, idx_main_v7, ix2]; omega

/-- The even columns of the activations. -/
theorem even_apply (x : Vec Ideal S192x1x3328 .bf16) (n : Fin 192) (k : Fin 1664) :
    val_main_v3 (F := Ideal) x (ix2 n k) = x (ix3 n 0 ⟨2 * k.val, by omega⟩) := by
  have hk : k.val < 1664 := k.isLt
  rw [val_main_v3_apply, val_main_v2_apply, val_main_v1_apply, val_main_v0_apply]
  refine congrArg x (funext fun a => Fin.ext ?_)
  match a with
  | ⟨0, _⟩ => show _ = n.val; dsimp only [idx_main_v0, idx_main_v1, idx_main_v2, idx_main_v3, ix2]; omega
  | ⟨1, _⟩ => rfl
  | ⟨2, _⟩ => show _ = 2 * k.val; dsimp only [idx_main_v0, idx_main_v1, idx_main_v2, idx_main_v3, ix2]; omega

/-- The odd columns of the activations. -/
theorem odd_apply (x : Vec Ideal S192x1x3328 .bf16) (n : Fin 192) (k : Fin 1664) :
    val_main_v5 (F := Ideal) x (ix2 n k) = x (ix3 n 0 ⟨2 * k.val + 1, by omega⟩) := by
  have hk : k.val < 1664 := k.isLt
  rw [val_main_v5_apply, val_main_v4_apply, val_main_v1_apply, val_main_v0_apply]
  refine congrArg x (funext fun a => Fin.ext ?_)
  match a with
  | ⟨0, _⟩ => show _ = n.val; dsimp only [idx_main_v0, idx_main_v1, idx_main_v4, idx_main_v5, ix2]; omega
  | ⟨1, _⟩ => rfl
  | ⟨2, _⟩ => show _ = 2 * k.val + 1; dsimp only [idx_main_v0, idx_main_v1, idx_main_v4, idx_main_v5, ix2]; omega

/-- The reference's result at a point. -/
theorem result_apply (x : Vec Ideal S192x1x3328 .bf16) (W : Vec Ideal S9088x1664 .i8) (A : Vec Ideal S9088x52 .f32) (n : Fin 192) (J : Fin 9088) :
    val_main_v107 (F := Ideal) x W A (ix3 n 0 J)
      = (∑ k : Fin 1664, x (ix3 n 0 ⟨2 * k.val, by omega⟩) * weight W A 0 k J) + ∑ k : Fin 1664, x (ix3 n 0 ⟨2 * k.val + 1, by omega⟩) * weight W A 1 k J := by
  have hJ : J.val < 9088 := J.isLt
  have hi : idx_main_v107 (ix3 n 0 J) = ix2 n J := funext fun a => Fin.ext (by
    match a with
    | ⟨0, _⟩ => show ((n.val * 1 + 0) * 9088 + J.val) / 9088 = n.val; omega
    | ⟨1, _⟩ => show ((n.val * 1 + 0) * 9088 + J.val) % 9088 = J.val; omega)
  rw [val_main_v107_apply, hi, val_main_v106_apply, val_main_v105_apply, val_main_v103_apply, val_main_v104_apply]
  refine congrArg₂ (· + ·) (Finset.sum_congr rfl fun k _ => congrArg₂ (· * ·) ?_ ?_) (Finset.sum_congr rfl fun k _ => congrArg₂ (· * ·) ?_ ?_)
  · exact (congrArg _ (show lidx_main_v103 (ix2 n J) k = ix2 n k from eq_ix2 _)).trans (even_apply x n k)
  · rw [show ridx_main_v103 (ix2 n J) k = ix2 J k from eq_ix2 _, val_main_v55_apply, val_main_v54_apply, low_level, scale_apply]; rfl
  · exact (congrArg _ (show lidx_main_v104 (ix2 n J) k = ix2 n k from eq_ix2 _)).trans (odd_apply x n k)
  · rw [show ridx_main_v104 (ix2 n J) k = ix2 J k from eq_ix2 _, val_main_v102_apply, val_main_v101_apply, high_level, scale_apply]; rfl

end Cert.ReferenceIdeal.Hand

end
-- ==== Proof.Sum.lean ====
/-
  The two results are equal: the kernel's one sum over the rows of the dequantised weights is the reference's two sums over
  the packed bytes, re-indexed.
-/
module

public import proofs.«01_k».proof.Proof.KernelIdeal.Result
public import proofs.«01_k».proof.Proof.ReferenceIdeal.Value

@[expose] public section

noncomputable section

namespace Cert.Nf4

open Cert.KernelIdeal.Hand

open Idealize.ShloMosaic hiding ix2 ix3
open Idealize.ShloMosaic.ValueIdx Idealize.ShloMosaic.TcCoe Idealize.SL.Sem
open Cert.KernelIdeal (S192x1x3328 S9088x1664 S9088x52 S192x1x9088)

/-- The row of nibble `h` of byte `k`. -/
def rowOf (h k : ℕ) : ℕ := 64 * (k / 32) + 32 * (k % 2) + 16 * h + k % 32 / 2

/-- The byte of row `r`. -/
def keyOf (r : ℕ) : ℕ := 32 * (r / 64) + 2 * (r % 16) + r / 32 % 2

/-- A row's coordinates: its block, its place in a group of sixteen, its nibble, and the parity of its byte. -/
theorem row_parts {r b p o h : ℕ} (hr : r = 64 * b + 32 * o + 16 * h + p) (hp : p < 16) (ho : o < 2) (hh : h < 2) :
    r / 64 = b ∧ r % 16 = p ∧ r / 16 % 2 = h ∧ r / 32 % 2 = o ∧ r / 16 % 4 = 2 * o + h := by
  have h1 : r / 16 = 4 * b + 2 * o + h := by omega
  have h2 : r / 32 = 2 * b + o := by omega
  refine ⟨by omega, by omega, ?_, ?_, ?_⟩
  · rw [h1]; omega
  · rw [h2]; omega
  · rw [h1]; omega

/-- A byte's coordinates. -/
theorem key_parts {k b p o : ℕ} (hk : k = 32 * b + 2 * p + o) (hp : p < 16) (ho : o < 2) : k / 32 = b ∧ k % 32 / 2 = p ∧ k % 2 = o := by
  have h1 : k % 32 = 2 * p + o := by omega
  refine ⟨by omega, ?_, by omega⟩
  rw [h1]; omega

/-- The coordinates of the row of nibble `h` of byte `k`. -/
theorem rowOf_parts (h k : ℕ) (hh : h < 2) :
    rowOf h k / 64 = k / 32 ∧ rowOf h k % 16 = k % 32 / 2 ∧ rowOf h k / 16 % 2 = h ∧ rowOf h k / 32 % 2 = k % 2
      ∧ rowOf h k / 16 % 4 = 2 * (k % 2) + h :=
  row_parts rfl (by omega) (by omega) hh

/-- A byte from its coordinates. -/
theorem key_join (k : ℕ) : 32 * (k / 32) + 2 * (k % 32 / 2) + k % 2 = k := by omega

/-- A row from its coordinates. -/
theorem row_join (r : ℕ) : 64 * (r / 64) + 32 * (r / 32 % 2) + 16 * (r / 16 % 2) + r % 16 = r := by
  have h1 : r / 16 = 2 * (r / 32) + r / 16 % 2 := by omega
  have h2 : r / 32 = 2 * (r / 64) + r / 32 % 2 := by omega
  omega

/-- The byte of the row of nibble `h` of byte `k` is `k`. -/
theorem keyOf_rowOf (h k : ℕ) (hh : h < 2) : keyOf (rowOf h k) = k := by
  obtain ⟨h1, h2, -, h4, -⟩ := rowOf_parts h k hh
  unfold keyOf
  rw [h1, h2, h4]; exact key_join k

/-- The row of the nibble and byte of row `r` is `r`. -/
theorem rowOf_keyOf (r : ℕ) : rowOf (r / 16 % 2) (keyOf r) = r := by
  obtain ⟨h1, h2, h3⟩ := key_parts (k := keyOf r) rfl (by omega) (by omega)
  unfold rowOf
  rw [h1, h2, h3]; exact row_join r

/-- The rows of the kernel's weights are the nibbles of the packed bytes, in another order. -/
def rows : Fin 2 × Fin 1664 ≃ Fin 3328 where
  toFun p := ⟨rowOf p.1.val p.2.val, by
    have h1 := p.1.isLt; have h2 := p.2.isLt; unfold rowOf; omega⟩
  invFun r := (⟨r.val / 16 % 2, by omega⟩, ⟨keyOf r.val, by have h := r.isLt; unfold keyOf; omega⟩)
  left_inv p := Prod.ext (Fin.ext (rowOf_parts p.1.val p.2.val p.1.isLt).2.2.1) (Fin.ext (keyOf_rowOf p.1.val p.2.val p.1.isLt))
  right_inv r := Fin.ext (rowOf_keyOf r.val)

/-- Row `rows (h, k)` meets column `2 k + h` of the activations. -/
theorem origin_rows (h : Fin 2) (k : Fin 1664) : (origin (rows (h, k))).val = 2 * k.val + h.val := by
  obtain ⟨h1, h2, -, -, h5⟩ := rowOf_parts h.val k.val h.isLt
  show 64 * (rowOf h.val k.val / 64) + 4 * (rowOf h.val k.val % 16) + rowOf h.val k.val / 16 % 4 = _
  rw [h1, h2, h5]
  have := key_join k.val
  omega

/-- It is nibble `h` -/
theorem half_rows (h : Fin 2) (k : Fin 1664) : (rows (h, k)).val / 16 % 2 = h.val := (rowOf_parts h.val k.val h.isLt).2.2.1

/-- of byte `k`, -/
theorem byteOf_rows (h : Fin 2) (k : Fin 1664) : byteOf (rows (h, k)) = k := Fin.ext (keyOf_rowOf h.val k.val h.isLt)

/-- whose block it shares. -/
theorem blockOf_rows (h : Fin 2) (k : Fin 1664) : (blockOf (rows (h, k))).val = k.val / 32 := (rowOf_parts h.val k.val h.isLt).1

/-- The weight in that row is the reference's. -/
theorem fullWeight_rows (W : Vec Ideal S9088x1664 .i8) (A : Vec Ideal S9088x52 .f32) (h : Fin 2) (k : Fin 1664) (J : Fin 9088) :
    fullWeight W A (rows (h, k)) J = Cert.ReferenceIdeal.Hand.weight W A h.val k J := by
  unfold fullWeight Cert.ReferenceIdeal.Hand.weight
  rw [half_rows, byteOf_rows, show blockOf (rows (h, k)) = ⟨k.val / 32, by omega⟩ from Fin.ext (blockOf_rows h k)]

/-- The kernel's result is the reference's. -/
theorem computed_eq (x : Vec Ideal S192x1x3328 .bf16) (W : Vec Ideal S9088x1664 .i8) (A : Vec Ideal S9088x52 .f32) :
    computed x W A = Cert.ReferenceIdeal.Read.val_main_v107 (F := Ideal) x W A := by
  funext i
  obtain ⟨n, J, rfl⟩ : ∃ (n : Fin 192) (J : Fin 9088), i = ix3 n 0 J := ⟨i 0, i 2, funext fun a => match a with
    | ⟨0, _⟩ => rfl
    | ⟨1, _⟩ => Fin.ext (Nat.lt_one_iff.mp (i 1).isLt)
    | ⟨2, _⟩ => rfl⟩
  refine Eq.trans ?_ (Cert.ReferenceIdeal.Hand.result_apply x W A n J).symm
  unfold computed
  refine (shapeCast_apply _ _ _ (ix2 n J) ?_).trans ?_
  · refine (Shape.rowMajor_val_two _).trans (Eq.trans ?_ (Shape.rowMajor_val_three _).symm)
    show n.val * 9088 + J.val = (n.val * 1 + 0) * 9088 + J.val
    omega
  show (∑ r : Fin 3328, permuted x (ix2 n r) * fullWeight W A r J) = _
  rw [← rows.sum_comp, Fintype.sum_prod_type, Fin.sum_univ_two]
  refine congrArg₂ (· + ·) (Finset.sum_congr rfl fun k _ => ?_) (Finset.sum_congr rfl fun k _ => ?_)
  · rw [permuted_apply, fullWeight_rows, show origin (rows (0, k)) = ⟨2 * k.val, by omega⟩ from Fin.ext (origin_rows 0 k)]; rfl
  · rw [permuted_apply, fullWeight_rows, show origin (rows (1, k)) = ⟨2 * k.val + 1, by omega⟩ from Fin.ext (origin_rows 1 k)]; rfl

end Cert.Nf4

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Kernel.Frame
public import proofs.«01_k».proof.Proof.KernelIdeal.Frame
public import proofs.«01_k».proof.Proof.ReferenceIdeal.Frame
public import proofs.«01_k».proof.Proof.Sum
public import Idealize.ShloMosaic.Adequacy
public import Idealize.ShloMosaic.Init

@[expose] public section

noncomputable section

namespace Cert.Proof

open Idealize.ShloMosaic Idealize.SL.Sem Cert.Kernel

/-- Over the extended reals, from memories that agree on the arguments, the kernel and the reference both run and end with
    the same result, their arguments unchanged. -/
theorem algebraic : @Cert.algebraic_KernelIdeal_ReferenceIdeal Cert.KernelIdeal.Gen.facts Cert.ReferenceIdeal.Gen.facts :=
  fun m g m' g' _ ha => ⟨fun c => Cert.KernelIdeal.Hand.computed
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.value_run m g,
    (θ_run (Cert.ReferenceIdeal.defs (F := Ideal)) _ _).mono (fun _ h c => ⟨((h c).1.trans
        (Cert.ReferenceIdeal.Read.val_main_v107_eq (StableHlo.launchContents m' c))).trans (by
          rw [StableHlo.launchContents_devRef, StableHlo.launchContents_devRef, StableHlo.launchContents_devRef]
          rw [(ha c).1, (ha c).2.1, (ha c).2.2]
          exact (Cert.Nf4.computed_eq _ _ _).symm), (h c).2⟩)
      (Cert.ReferenceIdeal.Value.run m' g')⟩

/-- Everything claimed. -/
theorem claim : Cert.Claim := ⟨Cert.Kernel.Gen.facts, Cert.KernelIdeal.Gen.facts, Cert.ReferenceIdeal.Gen.facts,
  fun m g _ => Cert.Kernel.Hand.quiescent m g, fun m g _ => Cert.KernelIdeal.Hand.quiescent m g,
  fun m g _ => Cert.ReferenceIdeal.Hand.quiescent m g, trivial, algebraic⟩

end Cert.Proof

end
